-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128 : Shape := ⟨1, ![128]⟩
abbrev S4x2048x128x32 : Shape := ⟨4, ![4, 2048, 128, 32]⟩
abbrev S64 : Shape := ⟨1, ![64]⟩
abbrev S33554432 : Shape := ⟨1, ![33554432]⟩
abbrev S16777216 : Shape := ⟨1, ![16777216]⟩
abbrev S32768 : Shape := ⟨1, ![32768]⟩
abbrev S16384 : Shape := ⟨1, ![16384]⟩
abbrev S_ : Shape := ⟨0, ![]⟩
abbrev S16 : Shape := ⟨1, ![16]⟩
abbrev S1 : Shape := ⟨1, ![1]⟩
abbrev S4x2048x64x32 : Shape := ⟨4, ![4, 2048, 64, 32]⟩

abbrev nBuf : Table → Nat
  | .hbm => 6
  | .local .scVector .vmem => 7
  | _ => 0

abbrev bufTy : (tb : Table) → Fin (nBuf tb) → BufTy
  | .hbm, ⟨0, _⟩ => ⟨S128, .f32⟩
  | .hbm, ⟨1, _⟩ => ⟨S4x2048x128x32, .f32⟩
  | .hbm, ⟨2, _⟩ => ⟨S64, .f32⟩
  | .hbm, ⟨3, _⟩ => ⟨S33554432, .f32⟩
  | .hbm, ⟨4, _⟩ => ⟨S16777216, .f32⟩
  | .hbm, ⟨5, _⟩ => ⟨S4x2048x64x32, .f32⟩
  | .local .scVector .vmem, ⟨0, _⟩ => ⟨S128, .f32⟩
  | .local .scVector .vmem, ⟨1, _⟩ => ⟨S64, .f32⟩
  | .local .scVector .vmem, ⟨2, _⟩ => ⟨S64, .i32⟩
  | .local .scVector .vmem, ⟨3, _⟩ => ⟨S64, .i32⟩
  | .local .scVector .vmem, ⟨4, _⟩ => ⟨S64, .f32⟩
  | .local .scVector .vmem, ⟨5, _⟩ => ⟨S32768, .f32⟩
  | .local .scVector .vmem, ⟨6, _⟩ => ⟨S16384, .f32⟩
  | _, _ => ⟨S128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg0_scv : Ref sig .scVector := ⟨.hbm, 0, rfl⟩
abbrev main_arg2_scv : Ref sig .scVector := ⟨.hbm, 2, rfl⟩
abbrev main_v0_scv : Ref sig .scVector := ⟨.hbm, 3, rfl⟩
abbrev main_v1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1537 : BitVec 32 := 0#32
  let c32_i32_1538 : BitVec 32 := 32#32
  let v10539 : BitVec 32 := Scalar.addi c0_i32_1537 c32_i32_1538
  let c1_i32_1539 : BitVec 32 := 1#32
  ⟨c0_i32_1537, v10539, c1_i32_1539⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v10538 : BitVec 32 := Scalar.muli v1 c256_i32
  let c0_i32_1537 : BitVec 32 := 0#32
  let c1_i32_1539 : BitVec 32 := 1#32
  let arg13 : BitVec 32 := Scf.iv c0_i32_1537 c1_i32_1539 k0_t1
  let c8_i32_1541 : BitVec 32 := 8#32
  let v10541 : BitVec 32 := Scalar.muli arg13 c8_i32_1541
  let v10542 : BitVec 32 := Scalar.addi v10538 v10541
  let c4096_i32 : BitVec 32 := 4096#32
  let v10543 : BitVec 32 := Scalar.muli v10542 c4096_i32
  ![v10543.toNat]
@[reducible] def k0_t2_loop : Scf.Loop 32 :=
  let c0_i32_1543 : BitVec 32 := 0#32
  let c8_i32_1544 : BitVec 32 := 8#32
  let v10544 : BitVec 32 := Scalar.addi c0_i32_1543 c8_i32_1544
  let c1_i32_1545 : BitVec 32 := 1#32
  ⟨c0_i32_1543, v10544, c1_i32_1545⟩
@[reducible] def k0_t3_loop : Scf.Loop 32 :=
  let c0_i32_1551 : BitVec 32 := 0#32
  let c4_i32_1552 : BitVec 32 := 4#32
  let v10549 : BitVec 32 := Scalar.addi c0_i32_1551 c4_i32_1552
  let c1_i32_1553 : BitVec 32 := 1#32
  ⟨c0_i32_1551, v10549, c1_i32_1553⟩
def k0_off2 (k0_t3 : Fin k0_t3_loop.trips) : Fin 1 → Nat :=
  let c0_i32_1551 : BitVec 32 := 0#32
  let c1_i32_1553 : BitVec 32 := 1#32
  let arg17 : BitVec 32 := Scf.iv c0_i32_1551 c1_i32_1553 k0_t3
  let c16_i32_1556 : BitVec 32 := 16#32
  let v10551 : BitVec 32 := Scalar.muli arg17 c16_i32_1556
  let v10552 : Index := Scalar.indexCast v10551
  ![v10552.toNat]
def k0_off3 (k0_t2 : Fin k0_t2_loop.trips) (v10567 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v10568 : BitVec 32 := Scalar.addi v10547 v10567
  let c0_i32_1562 : BitVec 32 := 0#32
  let v10575 : BitVec 32 := Scalar.addi v10568 c0_i32_1562
  let v10576 : Index := Scalar.indexCast v10575
  ![v10576.toNat]

def k0_off4 (k0_t2 : Fin k0_t2_loop.trips) (v10570 : BitVec 32) (c0_i32_1563 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v10571 : BitVec 32 := Scalar.addi v10547 v10570
  let v10579 : BitVec 32 := Scalar.addi v10571 c0_i32_1563
  let v10580 : Index := Scalar.indexCast v10579
  ![v10580.toNat]

def k0_chk2 (k0_t2 : Fin k0_t2_loop.trips) (v10570 : BitVec 32) : Prop :=
  (∀ (r : Fin 2), ∀ a, (k0_off4 k0_t2 v10570 (BitVec.ofNat 32 (16 * r.val))) a + S16.size a ≤ S32768.size a)
theorem k0_off4_inb : ∀ (k0_t2 : Fin k0_t2_loop.trips) (v10570 : BitVec 32) (k0_hw2 : k0_chk2 k0_t2 v10570), ∀ (r : Fin 2), ∀ a, (k0_off4 k0_t2 v10570 (BitVec.ofNat 32 (16 * r.val))) a + S16.size a ≤ S32768.size a := fun k0_t2 v10570 k0_hw2 r => k0_hw2 r

def k0_off5 (k0_t2 : Fin k0_t2_loop.trips) (k0_t3 : Fin k0_t3_loop.trips) (c0_i32_1564 : BitVec 32) : Fin 1 → Nat :=
  let c0_i32_1543 : BitVec 32 := 0#32
  let c1_i32_1545 : BitVec 32 := 1#32
  let arg15 : BitVec 32 := Scf.iv c0_i32_1543 c1_i32_1545 k0_t2
  let c2048_i32_1549 : BitVec 32 := 2048#32
  let v10548 : BitVec 32 := Scalar.muli arg15 c2048_i32_1549
  let c0_i32_1551 : BitVec 32 := 0#32
  let c1_i32_1553 : BitVec 32 := 1#32
  let arg17 : BitVec 32 := Scf.iv c0_i32_1551 c1_i32_1553 k0_t3
  let c16_i32_1559 : BitVec 32 := 16#32
  let v10563 : BitVec 32 := Scalar.muli arg17 c16_i32_1559
  let c32_i32_1560 : BitVec 32 := 32#32
  let v10564 : BitVec 32 := Scalar.muli v10563 c32_i32_1560
  let v10565 : BitVec 32 := Scalar.addi v10548 v10564
  let c0_i32_1561 : BitVec 32 := 0#32
  let v10574 : BitVec 32 := Scalar.addi v10565 c0_i32_1561
  let v10587 : BitVec 32 := Scalar.addi v10574 c0_i32_1564
  let v10588 : Index := Scalar.indexCast v10587
  ![v10588.toNat]
def k0_off6 (k0_t2 : Fin k0_t2_loop.trips) (v10567 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v10568 : BitVec 32 := Scalar.addi v10547 v10567
  let c16_i32_1565 : BitVec 32 := 16#32
  let v10592 : BitVec 32 := Scalar.addi v10568 c16_i32_1565
  let v10593 : Index := Scalar.indexCast v10592
  ![v10593.toNat]

def k0_chk1 (k0_t2 : Fin k0_t2_loop.trips) (v10567 : BitVec 32) : Prop :=
  (∀ a, (k0_off3 k0_t2 v10567) a + S16.size a ≤ S32768.size a) ∧
  (∀ a, (k0_off6 k0_t2 v10567) a + S16.size a ≤ S32768.size a)
theorem k0_off3_inb : ∀ (k0_t2 : Fin k0_t2_loop.trips) (v10567 : BitVec 32) (k0_hw1 : k0_chk1 k0_t2 v10567), ∀ a, (k0_off3 k0_t2 v10567) a + S16.size a ≤ S32768.size a := fun k0_t2 v10567 k0_hw1 => k0_hw1.1
theorem k0_off6_inb : ∀ (k0_t2 : Fin k0_t2_loop.trips) (v10567 : BitVec 32) (k0_hw1 : k0_chk1 k0_t2 v10567), ∀ a, (k0_off6 k0_t2 v10567) a + S16.size a ≤ S32768.size a := fun k0_t2 v10567 k0_hw1 => k0_hw1.2

def k0_off7 (k0_t2 : Fin k0_t2_loop.trips) (v10610 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v10611 : BitVec 32 := Scalar.addi v10547 v10610
  let c0_i32_1569 : BitVec 32 := 0#32
  let v10618 : BitVec 32 := Scalar.addi v10611 c0_i32_1569
  let v10619 : Index := Scalar.indexCast v10618
  ![v10619.toNat]

def k0_off8 (k0_t2 : Fin k0_t2_loop.trips) (v10613 : BitVec 32) (c0_i32_1570 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v10614 : BitVec 32 := Scalar.addi v10547 v10613
  let v10622 : BitVec 32 := Scalar.addi v10614 c0_i32_1570
  let v10623 : Index := Scalar.indexCast v10622
  ![v10623.toNat]

def k0_chk4 (k0_t2 : Fin k0_t2_loop.trips) (v10613 : BitVec 32) : Prop :=
  (∀ (r : Fin 2), ∀ a, (k0_off8 k0_t2 v10613 (BitVec.ofNat 32 (16 * r.val))) a + S16.size a ≤ S32768.size a)
theorem k0_off8_inb : ∀ (k0_t2 : Fin k0_t2_loop.trips) (v10613 : BitVec 32) (k0_hw4 : k0_chk4 k0_t2 v10613), ∀ (r : Fin 2), ∀ a, (k0_off8 k0_t2 v10613 (BitVec.ofNat 32 (16 * r.val))) a + S16.size a ≤ S32768.size a := fun k0_t2 v10613 k0_hw4 r => k0_hw4 r

def k0_off9 (k0_t2 : Fin k0_t2_loop.trips) (k0_t3 : Fin k0_t3_loop.trips) (c0_i32_1571 : BitVec 32) : Fin 1 → Nat :=
  let c0_i32_1543 : BitVec 32 := 0#32
  let c1_i32_1545 : BitVec 32 := 1#32
  let arg15 : BitVec 32 := Scf.iv c0_i32_1543 c1_i32_1545 k0_t2
  let c2048_i32_1549 : BitVec 32 := 2048#32
  let v10548 : BitVec 32 := Scalar.muli arg15 c2048_i32_1549
  let c0_i32_1551 : BitVec 32 := 0#32
  let c1_i32_1553 : BitVec 32 := 1#32
  let arg17 : BitVec 32 := Scf.iv c0_i32_1551 c1_i32_1553 k0_t3
  let c16_i32_1559 : BitVec 32 := 16#32
  let v10563 : BitVec 32 := Scalar.muli arg17 c16_i32_1559
  let c32_i32_1560 : BitVec 32 := 32#32
  let v10564 : BitVec 32 := Scalar.muli v10563 c32_i32_1560
  let v10565 : BitVec 32 := Scalar.addi v10548 v10564
  let c32_i32_1568 : BitVec 32 := 32#32
  let v10617 : BitVec 32 := Scalar.addi v10565 c32_i32_1568
  let v10630 : BitVec 32 := Scalar.addi v10617 c0_i32_1571
  let v10631 : Index := Scalar.indexCast v10630
  ![v10631.toNat]
def k0_off10 (k0_t2 : Fin k0_t2_loop.trips) (v10610 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v10611 : BitVec 32 := Scalar.addi v10547 v10610
  let c16_i32_1572 : BitVec 32 := 16#32
  let v10635 : BitVec 32 := Scalar.addi v10611 c16_i32_1572
  let v10636 : Index := Scalar.indexCast v10635
  ![v10636.toNat]

def k0_chk3 (k0_t2 : Fin k0_t2_loop.trips) (v10610 : BitVec 32) : Prop :=
  (∀ a, (k0_off7 k0_t2 v10610) a + S16.size a ≤ S32768.size a) ∧
  (∀ a, (k0_off10 k0_t2 v10610) a + S16.size a ≤ S32768.size a)
theorem k0_off7_inb : ∀ (k0_t2 : Fin k0_t2_loop.trips) (v10610 : BitVec 32) (k0_hw3 : k0_chk3 k0_t2 v10610), ∀ a, (k0_off7 k0_t2 v10610) a + S16.size a ≤ S32768.size a := fun k0_t2 v10610 k0_hw3 => k0_hw3.1
theorem k0_off10_inb : ∀ (k0_t2 : Fin k0_t2_loop.trips) (v10610 : BitVec 32) (k0_hw3 : k0_chk3 k0_t2 v10610), ∀ a, (k0_off10 k0_t2 v10610) a + S16.size a ≤ S32768.size a := fun k0_t2 v10610 k0_hw3 => k0_hw3.2

def k0_off11 (k0_t2 : Fin k0_t2_loop.trips) (v10653 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v10654 : BitVec 32 := Scalar.addi v10547 v10653
  let c0_i32_1576 : BitVec 32 := 0#32
  let v10661 : BitVec 32 := Scalar.addi v10654 c0_i32_1576
  let v10662 : Index := Scalar.indexCast v10661
  ![v10662.toNat]

def k0_off12 (k0_t2 : Fin k0_t2_loop.trips) (v10656 : BitVec 32) (c0_i32_1577 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v10657 : BitVec 32 := Scalar.addi v10547 v10656
  let v10665 : BitVec 32 := Scalar.addi v10657 c0_i32_1577
  let v10666 : Index := Scalar.indexCast v10665
  ![v10666.toNat]

def k0_chk6 (k0_t2 : Fin k0_t2_loop.trips) (v10656 : BitVec 32) : Prop :=
  (∀ (r : Fin 2), ∀ a, (k0_off12 k0_t2 v10656 (BitVec.ofNat 32 (16 * r.val))) a + S16.size a ≤ S32768.size a)
theorem k0_off12_inb : ∀ (k0_t2 : Fin k0_t2_loop.trips) (v10656 : BitVec 32) (k0_hw6 : k0_chk6 k0_t2 v10656), ∀ (r : Fin 2), ∀ a, (k0_off12 k0_t2 v10656 (BitVec.ofNat 32 (16 * r.val))) a + S16.size a ≤ S32768.size a := fun k0_t2 v10656 k0_hw6 r => k0_hw6 r

def k0_off13 (k0_t2 : Fin k0_t2_loop.trips) (k0_t3 : Fin k0_t3_loop.trips) (c0_i32_1578 : BitVec 32) : Fin 1 → Nat :=
  let c0_i32_1543 : BitVec 32 := 0#32
  let c1_i32_1545 : BitVec 32 := 1#32
  let arg15 : BitVec 32 := Scf.iv c0_i32_1543 c1_i32_1545 k0_t2
  let c2048_i32_1549 : BitVec 32 := 2048#32
  let v10548 : BitVec 32 := Scalar.muli arg15 c2048_i32_1549
  let c0_i32_1551 : BitVec 32 := 0#32
  let c1_i32_1553 : BitVec 32 := 1#32
  let arg17 : BitVec 32 := Scf.iv c0_i32_1551 c1_i32_1553 k0_t3
  let c16_i32_1559 : BitVec 32 := 16#32
  let v10563 : BitVec 32 := Scalar.muli arg17 c16_i32_1559
  let c32_i32_1560 : BitVec 32 := 32#32
  let v10564 : BitVec 32 := Scalar.muli v10563 c32_i32_1560
  let v10565 : BitVec 32 := Scalar.addi v10548 v10564
  let c64_i32_1575 : BitVec 32 := 64#32
  let v10660 : BitVec 32 := Scalar.addi v10565 c64_i32_1575
  let v10673 : BitVec 32 := Scalar.addi v10660 c0_i32_1578
  let v10674 : Index := Scalar.indexCast v10673
  ![v10674.toNat]
def k0_off14 (k0_t2 : Fin k0_t2_loop.trips) (v10653 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v10654 : BitVec 32 := Scalar.addi v10547 v10653
  let c16_i32_1579 : BitVec 32 := 16#32
  let v10678 : BitVec 32 := Scalar.addi v10654 c16_i32_1579
  let v10679 : Index := Scalar.indexCast v10678
  ![v10679.toNat]

def k0_chk5 (k0_t2 : Fin k0_t2_loop.trips) (v10653 : BitVec 32) : Prop :=
  (∀ a, (k0_off11 k0_t2 v10653) a + S16.size a ≤ S32768.size a) ∧
  (∀ a, (k0_off14 k0_t2 v10653) a + S16.size a ≤ S32768.size a)
theorem k0_off11_inb : ∀ (k0_t2 : Fin k0_t2_loop.trips) (v10653 : BitVec 32) (k0_hw5 : k0_chk5 k0_t2 v10653), ∀ a, (k0_off11 k0_t2 v10653) a + S16.size a ≤ S32768.size a := fun k0_t2 v10653 k0_hw5 => k0_hw5.1
theorem k0_off14_inb : ∀ (k0_t2 : Fin k0_t2_loop.trips) (v10653 : BitVec 32) (k0_hw5 : k0_chk5 k0_t2 v10653), ∀ a, (k0_off14 k0_t2 v10653) a + S16.size a ≤ S32768.size a := fun k0_t2 v10653 k0_hw5 => k0_hw5.2

def k0_off15 (k0_t2 : Fin k0_t2_loop.trips) (v10696 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v10697 : BitVec 32 := Scalar.addi v10547 v10696
  let c0_i32_1583 : BitVec 32 := 0#32
  let v10704 : BitVec 32 := Scalar.addi v10697 c0_i32_1583
  let v10705 : Index := Scalar.indexCast v10704
  ![v10705.toNat]

def k0_off16 (k0_t2 : Fin k0_t2_loop.trips) (v10699 : BitVec 32) (c0_i32_1584 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v10700 : BitVec 32 := Scalar.addi v10547 v10699
  let v10708 : BitVec 32 := Scalar.addi v10700 c0_i32_1584
  let v10709 : Index := Scalar.indexCast v10708
  ![v10709.toNat]

def k0_chk8 (k0_t2 : Fin k0_t2_loop.trips) (v10699 : BitVec 32) : Prop :=
  (∀ (r : Fin 2), ∀ a, (k0_off16 k0_t2 v10699 (BitVec.ofNat 32 (16 * r.val))) a + S16.size a ≤ S32768.size a)
theorem k0_off16_inb : ∀ (k0_t2 : Fin k0_t2_loop.trips) (v10699 : BitVec 32) (k0_hw8 : k0_chk8 k0_t2 v10699), ∀ (r : Fin 2), ∀ a, (k0_off16 k0_t2 v10699 (BitVec.ofNat 32 (16 * r.val))) a + S16.size a ≤ S32768.size a := fun k0_t2 v10699 k0_hw8 r => k0_hw8 r

def k0_off17 (k0_t2 : Fin k0_t2_loop.trips) (k0_t3 : Fin k0_t3_loop.trips) (c0_i32_1585 : BitVec 32) : Fin 1 → Nat :=
  let c0_i32_1543 : BitVec 32 := 0#32
  let c1_i32_1545 : BitVec 32 := 1#32
  let arg15 : BitVec 32 := Scf.iv c0_i32_1543 c1_i32_1545 k0_t2
  let c2048_i32_1549 : BitVec 32 := 2048#32
  let v10548 : BitVec 32 := Scalar.muli arg15 c2048_i32_1549
  let c0_i32_1551 : BitVec 32 := 0#32
  let c1_i32_1553 : BitVec 32 := 1#32
  let arg17 : BitVec 32 := Scf.iv c0_i32_1551 c1_i32_1553 k0_t3
  let c16_i32_1559 : BitVec 32 := 16#32
  let v10563 : BitVec 32 := Scalar.muli arg17 c16_i32_1559
  let c32_i32_1560 : BitVec 32 := 32#32
  let v10564 : BitVec 32 := Scalar.muli v10563 c32_i32_1560
  let v10565 : BitVec 32 := Scalar.addi v10548 v10564
  let c96_i32_1582 : BitVec 32 := 96#32
  let v10703 : BitVec 32 := Scalar.addi v10565 c96_i32_1582
  let v10716 : BitVec 32 := Scalar.addi v10703 c0_i32_1585
  let v10717 : Index := Scalar.indexCast v10716
  ![v10717.toNat]
def k0_off18 (k0_t2 : Fin k0_t2_loop.trips) (v10696 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v10697 : BitVec 32 := Scalar.addi v10547 v10696
  let c16_i32_1586 : BitVec 32 := 16#32
  let v10721 : BitVec 32 := Scalar.addi v10697 c16_i32_1586
  let v10722 : Index := Scalar.indexCast v10721
  ![v10722.toNat]

def k0_chk7 (k0_t2 : Fin k0_t2_loop.trips) (v10696 : BitVec 32) : Prop :=
  (∀ a, (k0_off15 k0_t2 v10696) a + S16.size a ≤ S32768.size a) ∧
  (∀ a, (k0_off18 k0_t2 v10696) a + S16.size a ≤ S32768.size a)
theorem k0_off15_inb : ∀ (k0_t2 : Fin k0_t2_loop.trips) (v10696 : BitVec 32) (k0_hw7 : k0_chk7 k0_t2 v10696), ∀ a, (k0_off15 k0_t2 v10696) a + S16.size a ≤ S32768.size a := fun k0_t2 v10696 k0_hw7 => k0_hw7.1
theorem k0_off18_inb : ∀ (k0_t2 : Fin k0_t2_loop.trips) (v10696 : BitVec 32) (k0_hw7 : k0_chk7 k0_t2 v10696), ∀ a, (k0_off18 k0_t2 v10696) a + S16.size a ≤ S32768.size a := fun k0_t2 v10696 k0_hw7 => k0_hw7.2

def k0_off19 (k0_t2 : Fin k0_t2_loop.trips) (v10739 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v10740 : BitVec 32 := Scalar.addi v10547 v10739
  let c0_i32_1589 : BitVec 32 := 0#32
  let v10747 : BitVec 32 := Scalar.addi v10740 c0_i32_1589
  let v10748 : Index := Scalar.indexCast v10747
  ![v10748.toNat]

def k0_off20 (k0_t2 : Fin k0_t2_loop.trips) (v10742 : BitVec 32) (c0_i32_1590 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v10743 : BitVec 32 := Scalar.addi v10547 v10742
  let v10751 : BitVec 32 := Scalar.addi v10743 c0_i32_1590
  let v10752 : Index := Scalar.indexCast v10751
  ![v10752.toNat]

def k0_chk10 (k0_t2 : Fin k0_t2_loop.trips) (v10742 : BitVec 32) : Prop :=
  (∀ (r : Fin 2), ∀ a, (k0_off20 k0_t2 v10742 (BitVec.ofNat 32 (16 * r.val))) a + S16.size a ≤ S32768.size a)
theorem k0_off20_inb : ∀ (k0_t2 : Fin k0_t2_loop.trips) (v10742 : BitVec 32) (k0_hw10 : k0_chk10 k0_t2 v10742), ∀ (r : Fin 2), ∀ a, (k0_off20 k0_t2 v10742 (BitVec.ofNat 32 (16 * r.val))) a + S16.size a ≤ S32768.size a := fun k0_t2 v10742 k0_hw10 r => k0_hw10 r

def k0_off21 (k0_t2 : Fin k0_t2_loop.trips) (k0_t3 : Fin k0_t3_loop.trips) (c0_i32_1591 : BitVec 32) : Fin 1 → Nat :=
  let c0_i32_1543 : BitVec 32 := 0#32
  let c1_i32_1545 : BitVec 32 := 1#32
  let arg15 : BitVec 32 := Scf.iv c0_i32_1543 c1_i32_1545 k0_t2
  let c2048_i32_1549 : BitVec 32 := 2048#32
  let v10548 : BitVec 32 := Scalar.muli arg15 c2048_i32_1549
  let c0_i32_1551 : BitVec 32 := 0#32
  let c1_i32_1553 : BitVec 32 := 1#32
  let arg17 : BitVec 32 := Scf.iv c0_i32_1551 c1_i32_1553 k0_t3
  let c16_i32_1559 : BitVec 32 := 16#32
  let v10563 : BitVec 32 := Scalar.muli arg17 c16_i32_1559
  let c32_i32_1560 : BitVec 32 := 32#32
  let v10564 : BitVec 32 := Scalar.muli v10563 c32_i32_1560
  let v10565 : BitVec 32 := Scalar.addi v10548 v10564
  let c128_i32 : BitVec 32 := 128#32
  let v10746 : BitVec 32 := Scalar.addi v10565 c128_i32
  let v10759 : BitVec 32 := Scalar.addi v10746 c0_i32_1591
  let v10760 : Index := Scalar.indexCast v10759
  ![v10760.toNat]
def k0_off22 (k0_t2 : Fin k0_t2_loop.trips) (v10739 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v10740 : BitVec 32 := Scalar.addi v10547 v10739
  let c16_i32_1592 : BitVec 32 := 16#32
  let v10764 : BitVec 32 := Scalar.addi v10740 c16_i32_1592
  let v10765 : Index := Scalar.indexCast v10764
  ![v10765.toNat]

def k0_chk9 (k0_t2 : Fin k0_t2_loop.trips) (v10739 : BitVec 32) : Prop :=
  (∀ a, (k0_off19 k0_t2 v10739) a + S16.size a ≤ S32768.size a) ∧
  (∀ a, (k0_off22 k0_t2 v10739) a + S16.size a ≤ S32768.size a)
theorem k0_off19_inb : ∀ (k0_t2 : Fin k0_t2_loop.trips) (v10739 : BitVec 32) (k0_hw9 : k0_chk9 k0_t2 v10739), ∀ a, (k0_off19 k0_t2 v10739) a + S16.size a ≤ S32768.size a := fun k0_t2 v10739 k0_hw9 => k0_hw9.1
theorem k0_off22_inb : ∀ (k0_t2 : Fin k0_t2_loop.trips) (v10739 : BitVec 32) (k0_hw9 : k0_chk9 k0_t2 v10739), ∀ a, (k0_off22 k0_t2 v10739) a + S16.size a ≤ S32768.size a := fun k0_t2 v10739 k0_hw9 => k0_hw9.2

def k0_off23 (k0_t2 : Fin k0_t2_loop.trips) (v10782 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v10783 : BitVec 32 := Scalar.addi v10547 v10782
  let c0_i32_1595 : BitVec 32 := 0#32
  let v10790 : BitVec 32 := Scalar.addi v10783 c0_i32_1595
  let v10791 : Index := Scalar.indexCast v10790
  ![v10791.toNat]

def k0_off24 (k0_t2 : Fin k0_t2_loop.trips) (v10785 : BitVec 32) (c0_i32_1596 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v10786 : BitVec 32 := Scalar.addi v10547 v10785
  let v10794 : BitVec 32 := Scalar.addi v10786 c0_i32_1596
  let v10795 : Index := Scalar.indexCast v10794
  ![v10795.toNat]

def k0_chk12 (k0_t2 : Fin k0_t2_loop.trips) (v10785 : BitVec 32) : Prop :=
  (∀ (r : Fin 2), ∀ a, (k0_off24 k0_t2 v10785 (BitVec.ofNat 32 (16 * r.val))) a + S16.size a ≤ S32768.size a)
theorem k0_off24_inb : ∀ (k0_t2 : Fin k0_t2_loop.trips) (v10785 : BitVec 32) (k0_hw12 : k0_chk12 k0_t2 v10785), ∀ (r : Fin 2), ∀ a, (k0_off24 k0_t2 v10785 (BitVec.ofNat 32 (16 * r.val))) a + S16.size a ≤ S32768.size a := fun k0_t2 v10785 k0_hw12 r => k0_hw12 r

def k0_off25 (k0_t2 : Fin k0_t2_loop.trips) (k0_t3 : Fin k0_t3_loop.trips) (c0_i32_1597 : BitVec 32) : Fin 1 → Nat :=
  let c0_i32_1543 : BitVec 32 := 0#32
  let c1_i32_1545 : BitVec 32 := 1#32
  let arg15 : BitVec 32 := Scf.iv c0_i32_1543 c1_i32_1545 k0_t2
  let c2048_i32_1549 : BitVec 32 := 2048#32
  let v10548 : BitVec 32 := Scalar.muli arg15 c2048_i32_1549
  let c0_i32_1551 : BitVec 32 := 0#32
  let c1_i32_1553 : BitVec 32 := 1#32
  let arg17 : BitVec 32 := Scf.iv c0_i32_1551 c1_i32_1553 k0_t3
  let c16_i32_1559 : BitVec 32 := 16#32
  let v10563 : BitVec 32 := Scalar.muli arg17 c16_i32_1559
  let c32_i32_1560 : BitVec 32 := 32#32
  let v10564 : BitVec 32 := Scalar.muli v10563 c32_i32_1560
  let v10565 : BitVec 32 := Scalar.addi v10548 v10564
  let c160_i32 : BitVec 32 := 160#32
  let v10789 : BitVec 32 := Scalar.addi v10565 c160_i32
  let v10802 : BitVec 32 := Scalar.addi v10789 c0_i32_1597
  let v10803 : Index := Scalar.indexCast v10802
  ![v10803.toNat]
def k0_off26 (k0_t2 : Fin k0_t2_loop.trips) (v10782 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v10783 : BitVec 32 := Scalar.addi v10547 v10782
  let c16_i32_1598 : BitVec 32 := 16#32
  let v10807 : BitVec 32 := Scalar.addi v10783 c16_i32_1598
  let v10808 : Index := Scalar.indexCast v10807
  ![v10808.toNat]

def k0_chk11 (k0_t2 : Fin k0_t2_loop.trips) (v10782 : BitVec 32) : Prop :=
  (∀ a, (k0_off23 k0_t2 v10782) a + S16.size a ≤ S32768.size a) ∧
  (∀ a, (k0_off26 k0_t2 v10782) a + S16.size a ≤ S32768.size a)
theorem k0_off23_inb : ∀ (k0_t2 : Fin k0_t2_loop.trips) (v10782 : BitVec 32) (k0_hw11 : k0_chk11 k0_t2 v10782), ∀ a, (k0_off23 k0_t2 v10782) a + S16.size a ≤ S32768.size a := fun k0_t2 v10782 k0_hw11 => k0_hw11.1
theorem k0_off26_inb : ∀ (k0_t2 : Fin k0_t2_loop.trips) (v10782 : BitVec 32) (k0_hw11 : k0_chk11 k0_t2 v10782), ∀ a, (k0_off26 k0_t2 v10782) a + S16.size a ≤ S32768.size a := fun k0_t2 v10782 k0_hw11 => k0_hw11.2

def k0_off27 (k0_t2 : Fin k0_t2_loop.trips) (v10825 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v10826 : BitVec 32 := Scalar.addi v10547 v10825
  let c0_i32_1601 : BitVec 32 := 0#32
  let v10833 : BitVec 32 := Scalar.addi v10826 c0_i32_1601
  let v10834 : Index := Scalar.indexCast v10833
  ![v10834.toNat]

def k0_off28 (k0_t2 : Fin k0_t2_loop.trips) (v10828 : BitVec 32) (c0_i32_1602 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v10829 : BitVec 32 := Scalar.addi v10547 v10828
  let v10837 : BitVec 32 := Scalar.addi v10829 c0_i32_1602
  let v10838 : Index := Scalar.indexCast v10837
  ![v10838.toNat]

def k0_chk14 (k0_t2 : Fin k0_t2_loop.trips) (v10828 : BitVec 32) : Prop :=
  (∀ (r : Fin 2), ∀ a, (k0_off28 k0_t2 v10828 (BitVec.ofNat 32 (16 * r.val))) a + S16.size a ≤ S32768.size a)
theorem k0_off28_inb : ∀ (k0_t2 : Fin k0_t2_loop.trips) (v10828 : BitVec 32) (k0_hw14 : k0_chk14 k0_t2 v10828), ∀ (r : Fin 2), ∀ a, (k0_off28 k0_t2 v10828 (BitVec.ofNat 32 (16 * r.val))) a + S16.size a ≤ S32768.size a := fun k0_t2 v10828 k0_hw14 r => k0_hw14 r

def k0_off29 (k0_t2 : Fin k0_t2_loop.trips) (k0_t3 : Fin k0_t3_loop.trips) (c0_i32_1603 : BitVec 32) : Fin 1 → Nat :=
  let c0_i32_1543 : BitVec 32 := 0#32
  let c1_i32_1545 : BitVec 32 := 1#32
  let arg15 : BitVec 32 := Scf.iv c0_i32_1543 c1_i32_1545 k0_t2
  let c2048_i32_1549 : BitVec 32 := 2048#32
  let v10548 : BitVec 32 := Scalar.muli arg15 c2048_i32_1549
  let c0_i32_1551 : BitVec 32 := 0#32
  let c1_i32_1553 : BitVec 32 := 1#32
  let arg17 : BitVec 32 := Scf.iv c0_i32_1551 c1_i32_1553 k0_t3
  let c16_i32_1559 : BitVec 32 := 16#32
  let v10563 : BitVec 32 := Scalar.muli arg17 c16_i32_1559
  let c32_i32_1560 : BitVec 32 := 32#32
  let v10564 : BitVec 32 := Scalar.muli v10563 c32_i32_1560
  let v10565 : BitVec 32 := Scalar.addi v10548 v10564
  let c192_i32 : BitVec 32 := 192#32
  let v10832 : BitVec 32 := Scalar.addi v10565 c192_i32
  let v10845 : BitVec 32 := Scalar.addi v10832 c0_i32_1603
  let v10846 : Index := Scalar.indexCast v10845
  ![v10846.toNat]
def k0_off30 (k0_t2 : Fin k0_t2_loop.trips) (v10825 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v10826 : BitVec 32 := Scalar.addi v10547 v10825
  let c16_i32_1604 : BitVec 32 := 16#32
  let v10850 : BitVec 32 := Scalar.addi v10826 c16_i32_1604
  let v10851 : Index := Scalar.indexCast v10850
  ![v10851.toNat]

def k0_chk13 (k0_t2 : Fin k0_t2_loop.trips) (v10825 : BitVec 32) : Prop :=
  (∀ a, (k0_off27 k0_t2 v10825) a + S16.size a ≤ S32768.size a) ∧
  (∀ a, (k0_off30 k0_t2 v10825) a + S16.size a ≤ S32768.size a)
theorem k0_off27_inb : ∀ (k0_t2 : Fin k0_t2_loop.trips) (v10825 : BitVec 32) (k0_hw13 : k0_chk13 k0_t2 v10825), ∀ a, (k0_off27 k0_t2 v10825) a + S16.size a ≤ S32768.size a := fun k0_t2 v10825 k0_hw13 => k0_hw13.1
theorem k0_off30_inb : ∀ (k0_t2 : Fin k0_t2_loop.trips) (v10825 : BitVec 32) (k0_hw13 : k0_chk13 k0_t2 v10825), ∀ a, (k0_off30 k0_t2 v10825) a + S16.size a ≤ S32768.size a := fun k0_t2 v10825 k0_hw13 => k0_hw13.2

def k0_off31 (k0_t2 : Fin k0_t2_loop.trips) (v10868 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v10869 : BitVec 32 := Scalar.addi v10547 v10868
  let c0_i32_1607 : BitVec 32 := 0#32
  let v10876 : BitVec 32 := Scalar.addi v10869 c0_i32_1607
  let v10877 : Index := Scalar.indexCast v10876
  ![v10877.toNat]

def k0_off32 (k0_t2 : Fin k0_t2_loop.trips) (v10871 : BitVec 32) (c0_i32_1608 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v10872 : BitVec 32 := Scalar.addi v10547 v10871
  let v10880 : BitVec 32 := Scalar.addi v10872 c0_i32_1608
  let v10881 : Index := Scalar.indexCast v10880
  ![v10881.toNat]

def k0_chk16 (k0_t2 : Fin k0_t2_loop.trips) (v10871 : BitVec 32) : Prop :=
  (∀ (r : Fin 2), ∀ a, (k0_off32 k0_t2 v10871 (BitVec.ofNat 32 (16 * r.val))) a + S16.size a ≤ S32768.size a)
theorem k0_off32_inb : ∀ (k0_t2 : Fin k0_t2_loop.trips) (v10871 : BitVec 32) (k0_hw16 : k0_chk16 k0_t2 v10871), ∀ (r : Fin 2), ∀ a, (k0_off32 k0_t2 v10871 (BitVec.ofNat 32 (16 * r.val))) a + S16.size a ≤ S32768.size a := fun k0_t2 v10871 k0_hw16 r => k0_hw16 r

def k0_off33 (k0_t2 : Fin k0_t2_loop.trips) (k0_t3 : Fin k0_t3_loop.trips) (c0_i32_1609 : BitVec 32) : Fin 1 → Nat :=
  let c0_i32_1543 : BitVec 32 := 0#32
  let c1_i32_1545 : BitVec 32 := 1#32
  let arg15 : BitVec 32 := Scf.iv c0_i32_1543 c1_i32_1545 k0_t2
  let c2048_i32_1549 : BitVec 32 := 2048#32
  let v10548 : BitVec 32 := Scalar.muli arg15 c2048_i32_1549
  let c0_i32_1551 : BitVec 32 := 0#32
  let c1_i32_1553 : BitVec 32 := 1#32
  let arg17 : BitVec 32 := Scf.iv c0_i32_1551 c1_i32_1553 k0_t3
  let c16_i32_1559 : BitVec 32 := 16#32
  let v10563 : BitVec 32 := Scalar.muli arg17 c16_i32_1559
  let c32_i32_1560 : BitVec 32 := 32#32
  let v10564 : BitVec 32 := Scalar.muli v10563 c32_i32_1560
  let v10565 : BitVec 32 := Scalar.addi v10548 v10564
  let c224_i32 : BitVec 32 := 224#32
  let v10875 : BitVec 32 := Scalar.addi v10565 c224_i32
  let v10888 : BitVec 32 := Scalar.addi v10875 c0_i32_1609
  let v10889 : Index := Scalar.indexCast v10888
  ![v10889.toNat]
def k0_off34 (k0_t2 : Fin k0_t2_loop.trips) (v10868 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v10869 : BitVec 32 := Scalar.addi v10547 v10868
  let c16_i32_1610 : BitVec 32 := 16#32
  let v10893 : BitVec 32 := Scalar.addi v10869 c16_i32_1610
  let v10894 : Index := Scalar.indexCast v10893
  ![v10894.toNat]

def k0_chk15 (k0_t2 : Fin k0_t2_loop.trips) (v10868 : BitVec 32) : Prop :=
  (∀ a, (k0_off31 k0_t2 v10868) a + S16.size a ≤ S32768.size a) ∧
  (∀ a, (k0_off34 k0_t2 v10868) a + S16.size a ≤ S32768.size a)
theorem k0_off31_inb : ∀ (k0_t2 : Fin k0_t2_loop.trips) (v10868 : BitVec 32) (k0_hw15 : k0_chk15 k0_t2 v10868), ∀ a, (k0_off31 k0_t2 v10868) a + S16.size a ≤ S32768.size a := fun k0_t2 v10868 k0_hw15 => k0_hw15.1
theorem k0_off34_inb : ∀ (k0_t2 : Fin k0_t2_loop.trips) (v10868 : BitVec 32) (k0_hw15 : k0_chk15 k0_t2 v10868), ∀ a, (k0_off34 k0_t2 v10868) a + S16.size a ≤ S32768.size a := fun k0_t2 v10868 k0_hw15 => k0_hw15.2

def k0_off35 (k0_t2 : Fin k0_t2_loop.trips) (v10911 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v10912 : BitVec 32 := Scalar.addi v10547 v10911
  let c0_i32_1614 : BitVec 32 := 0#32
  let v10919 : BitVec 32 := Scalar.addi v10912 c0_i32_1614
  let v10920 : Index := Scalar.indexCast v10919
  ![v10920.toNat]

def k0_off36 (k0_t2 : Fin k0_t2_loop.trips) (v10914 : BitVec 32) (c0_i32_1615 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v10915 : BitVec 32 := Scalar.addi v10547 v10914
  let v10923 : BitVec 32 := Scalar.addi v10915 c0_i32_1615
  let v10924 : Index := Scalar.indexCast v10923
  ![v10924.toNat]

def k0_chk18 (k0_t2 : Fin k0_t2_loop.trips) (v10914 : BitVec 32) : Prop :=
  (∀ (r : Fin 2), ∀ a, (k0_off36 k0_t2 v10914 (BitVec.ofNat 32 (16 * r.val))) a + S16.size a ≤ S32768.size a)
theorem k0_off36_inb : ∀ (k0_t2 : Fin k0_t2_loop.trips) (v10914 : BitVec 32) (k0_hw18 : k0_chk18 k0_t2 v10914), ∀ (r : Fin 2), ∀ a, (k0_off36 k0_t2 v10914 (BitVec.ofNat 32 (16 * r.val))) a + S16.size a ≤ S32768.size a := fun k0_t2 v10914 k0_hw18 r => k0_hw18 r

def k0_off37 (k0_t2 : Fin k0_t2_loop.trips) (k0_t3 : Fin k0_t3_loop.trips) (c0_i32_1616 : BitVec 32) : Fin 1 → Nat :=
  let c0_i32_1543 : BitVec 32 := 0#32
  let c1_i32_1545 : BitVec 32 := 1#32
  let arg15 : BitVec 32 := Scf.iv c0_i32_1543 c1_i32_1545 k0_t2
  let c2048_i32_1549 : BitVec 32 := 2048#32
  let v10548 : BitVec 32 := Scalar.muli arg15 c2048_i32_1549
  let c0_i32_1551 : BitVec 32 := 0#32
  let c1_i32_1553 : BitVec 32 := 1#32
  let arg17 : BitVec 32 := Scf.iv c0_i32_1551 c1_i32_1553 k0_t3
  let c16_i32_1559 : BitVec 32 := 16#32
  let v10563 : BitVec 32 := Scalar.muli arg17 c16_i32_1559
  let c32_i32_1560 : BitVec 32 := 32#32
  let v10564 : BitVec 32 := Scalar.muli v10563 c32_i32_1560
  let v10565 : BitVec 32 := Scalar.addi v10548 v10564
  let c256_i32_1613 : BitVec 32 := 256#32
  let v10918 : BitVec 32 := Scalar.addi v10565 c256_i32_1613
  let v10931 : BitVec 32 := Scalar.addi v10918 c0_i32_1616
  let v10932 : Index := Scalar.indexCast v10931
  ![v10932.toNat]
def k0_off38 (k0_t2 : Fin k0_t2_loop.trips) (v10911 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v10912 : BitVec 32 := Scalar.addi v10547 v10911
  let c16_i32_1617 : BitVec 32 := 16#32
  let v10936 : BitVec 32 := Scalar.addi v10912 c16_i32_1617
  let v10937 : Index := Scalar.indexCast v10936
  ![v10937.toNat]

def k0_chk17 (k0_t2 : Fin k0_t2_loop.trips) (v10911 : BitVec 32) : Prop :=
  (∀ a, (k0_off35 k0_t2 v10911) a + S16.size a ≤ S32768.size a) ∧
  (∀ a, (k0_off38 k0_t2 v10911) a + S16.size a ≤ S32768.size a)
theorem k0_off35_inb : ∀ (k0_t2 : Fin k0_t2_loop.trips) (v10911 : BitVec 32) (k0_hw17 : k0_chk17 k0_t2 v10911), ∀ a, (k0_off35 k0_t2 v10911) a + S16.size a ≤ S32768.size a := fun k0_t2 v10911 k0_hw17 => k0_hw17.1
theorem k0_off38_inb : ∀ (k0_t2 : Fin k0_t2_loop.trips) (v10911 : BitVec 32) (k0_hw17 : k0_chk17 k0_t2 v10911), ∀ a, (k0_off38 k0_t2 v10911) a + S16.size a ≤ S32768.size a := fun k0_t2 v10911 k0_hw17 => k0_hw17.2

def k0_off39 (k0_t2 : Fin k0_t2_loop.trips) (v10954 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v10955 : BitVec 32 := Scalar.addi v10547 v10954
  let c0_i32_1620 : BitVec 32 := 0#32
  let v10962 : BitVec 32 := Scalar.addi v10955 c0_i32_1620
  let v10963 : Index := Scalar.indexCast v10962
  ![v10963.toNat]

def k0_off40 (k0_t2 : Fin k0_t2_loop.trips) (v10957 : BitVec 32) (c0_i32_1621 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v10958 : BitVec 32 := Scalar.addi v10547 v10957
  let v10966 : BitVec 32 := Scalar.addi v10958 c0_i32_1621
  let v10967 : Index := Scalar.indexCast v10966
  ![v10967.toNat]

def k0_chk20 (k0_t2 : Fin k0_t2_loop.trips) (v10957 : BitVec 32) : Prop :=
  (∀ (r : Fin 2), ∀ a, (k0_off40 k0_t2 v10957 (BitVec.ofNat 32 (16 * r.val))) a + S16.size a ≤ S32768.size a)
theorem k0_off40_inb : ∀ (k0_t2 : Fin k0_t2_loop.trips) (v10957 : BitVec 32) (k0_hw20 : k0_chk20 k0_t2 v10957), ∀ (r : Fin 2), ∀ a, (k0_off40 k0_t2 v10957 (BitVec.ofNat 32 (16 * r.val))) a + S16.size a ≤ S32768.size a := fun k0_t2 v10957 k0_hw20 r => k0_hw20 r

def k0_off41 (k0_t2 : Fin k0_t2_loop.trips) (k0_t3 : Fin k0_t3_loop.trips) (c0_i32_1622 : BitVec 32) : Fin 1 → Nat :=
  let c0_i32_1543 : BitVec 32 := 0#32
  let c1_i32_1545 : BitVec 32 := 1#32
  let arg15 : BitVec 32 := Scf.iv c0_i32_1543 c1_i32_1545 k0_t2
  let c2048_i32_1549 : BitVec 32 := 2048#32
  let v10548 : BitVec 32 := Scalar.muli arg15 c2048_i32_1549
  let c0_i32_1551 : BitVec 32 := 0#32
  let c1_i32_1553 : BitVec 32 := 1#32
  let arg17 : BitVec 32 := Scf.iv c0_i32_1551 c1_i32_1553 k0_t3
  let c16_i32_1559 : BitVec 32 := 16#32
  let v10563 : BitVec 32 := Scalar.muli arg17 c16_i32_1559
  let c32_i32_1560 : BitVec 32 := 32#32
  let v10564 : BitVec 32 := Scalar.muli v10563 c32_i32_1560
  let v10565 : BitVec 32 := Scalar.addi v10548 v10564
  let c288_i32 : BitVec 32 := 288#32
  let v10961 : BitVec 32 := Scalar.addi v10565 c288_i32
  let v10974 : BitVec 32 := Scalar.addi v10961 c0_i32_1622
  let v10975 : Index := Scalar.indexCast v10974
  ![v10975.toNat]
def k0_off42 (k0_t2 : Fin k0_t2_loop.trips) (v10954 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v10955 : BitVec 32 := Scalar.addi v10547 v10954
  let c16_i32_1623 : BitVec 32 := 16#32
  let v10979 : BitVec 32 := Scalar.addi v10955 c16_i32_1623
  let v10980 : Index := Scalar.indexCast v10979
  ![v10980.toNat]

def k0_chk19 (k0_t2 : Fin k0_t2_loop.trips) (v10954 : BitVec 32) : Prop :=
  (∀ a, (k0_off39 k0_t2 v10954) a + S16.size a ≤ S32768.size a) ∧
  (∀ a, (k0_off42 k0_t2 v10954) a + S16.size a ≤ S32768.size a)
theorem k0_off39_inb : ∀ (k0_t2 : Fin k0_t2_loop.trips) (v10954 : BitVec 32) (k0_hw19 : k0_chk19 k0_t2 v10954), ∀ a, (k0_off39 k0_t2 v10954) a + S16.size a ≤ S32768.size a := fun k0_t2 v10954 k0_hw19 => k0_hw19.1
theorem k0_off42_inb : ∀ (k0_t2 : Fin k0_t2_loop.trips) (v10954 : BitVec 32) (k0_hw19 : k0_chk19 k0_t2 v10954), ∀ a, (k0_off42 k0_t2 v10954) a + S16.size a ≤ S32768.size a := fun k0_t2 v10954 k0_hw19 => k0_hw19.2

def k0_off43 (k0_t2 : Fin k0_t2_loop.trips) (v10997 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v10998 : BitVec 32 := Scalar.addi v10547 v10997
  let c0_i32_1626 : BitVec 32 := 0#32
  let v11005 : BitVec 32 := Scalar.addi v10998 c0_i32_1626
  let v11006 : Index := Scalar.indexCast v11005
  ![v11006.toNat]

def k0_off44 (k0_t2 : Fin k0_t2_loop.trips) (v11000 : BitVec 32) (c0_i32_1627 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v11001 : BitVec 32 := Scalar.addi v10547 v11000
  let v11009 : BitVec 32 := Scalar.addi v11001 c0_i32_1627
  let v11010 : Index := Scalar.indexCast v11009
  ![v11010.toNat]

def k0_chk22 (k0_t2 : Fin k0_t2_loop.trips) (v11000 : BitVec 32) : Prop :=
  (∀ (r : Fin 2), ∀ a, (k0_off44 k0_t2 v11000 (BitVec.ofNat 32 (16 * r.val))) a + S16.size a ≤ S32768.size a)
theorem k0_off44_inb : ∀ (k0_t2 : Fin k0_t2_loop.trips) (v11000 : BitVec 32) (k0_hw22 : k0_chk22 k0_t2 v11000), ∀ (r : Fin 2), ∀ a, (k0_off44 k0_t2 v11000 (BitVec.ofNat 32 (16 * r.val))) a + S16.size a ≤ S32768.size a := fun k0_t2 v11000 k0_hw22 r => k0_hw22 r

def k0_off45 (k0_t2 : Fin k0_t2_loop.trips) (k0_t3 : Fin k0_t3_loop.trips) (c0_i32_1628 : BitVec 32) : Fin 1 → Nat :=
  let c0_i32_1543 : BitVec 32 := 0#32
  let c1_i32_1545 : BitVec 32 := 1#32
  let arg15 : BitVec 32 := Scf.iv c0_i32_1543 c1_i32_1545 k0_t2
  let c2048_i32_1549 : BitVec 32 := 2048#32
  let v10548 : BitVec 32 := Scalar.muli arg15 c2048_i32_1549
  let c0_i32_1551 : BitVec 32 := 0#32
  let c1_i32_1553 : BitVec 32 := 1#32
  let arg17 : BitVec 32 := Scf.iv c0_i32_1551 c1_i32_1553 k0_t3
  let c16_i32_1559 : BitVec 32 := 16#32
  let v10563 : BitVec 32 := Scalar.muli arg17 c16_i32_1559
  let c32_i32_1560 : BitVec 32 := 32#32
  let v10564 : BitVec 32 := Scalar.muli v10563 c32_i32_1560
  let v10565 : BitVec 32 := Scalar.addi v10548 v10564
  let c320_i32 : BitVec 32 := 320#32
  let v11004 : BitVec 32 := Scalar.addi v10565 c320_i32
  let v11017 : BitVec 32 := Scalar.addi v11004 c0_i32_1628
  let v11018 : Index := Scalar.indexCast v11017
  ![v11018.toNat]
def k0_off46 (k0_t2 : Fin k0_t2_loop.trips) (v10997 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v10998 : BitVec 32 := Scalar.addi v10547 v10997
  let c16_i32_1629 : BitVec 32 := 16#32
  let v11022 : BitVec 32 := Scalar.addi v10998 c16_i32_1629
  let v11023 : Index := Scalar.indexCast v11022
  ![v11023.toNat]

def k0_chk21 (k0_t2 : Fin k0_t2_loop.trips) (v10997 : BitVec 32) : Prop :=
  (∀ a, (k0_off43 k0_t2 v10997) a + S16.size a ≤ S32768.size a) ∧
  (∀ a, (k0_off46 k0_t2 v10997) a + S16.size a ≤ S32768.size a)
theorem k0_off43_inb : ∀ (k0_t2 : Fin k0_t2_loop.trips) (v10997 : BitVec 32) (k0_hw21 : k0_chk21 k0_t2 v10997), ∀ a, (k0_off43 k0_t2 v10997) a + S16.size a ≤ S32768.size a := fun k0_t2 v10997 k0_hw21 => k0_hw21.1
theorem k0_off46_inb : ∀ (k0_t2 : Fin k0_t2_loop.trips) (v10997 : BitVec 32) (k0_hw21 : k0_chk21 k0_t2 v10997), ∀ a, (k0_off46 k0_t2 v10997) a + S16.size a ≤ S32768.size a := fun k0_t2 v10997 k0_hw21 => k0_hw21.2

def k0_off47 (k0_t2 : Fin k0_t2_loop.trips) (v11040 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v11041 : BitVec 32 := Scalar.addi v10547 v11040
  let c0_i32_1632 : BitVec 32 := 0#32
  let v11048 : BitVec 32 := Scalar.addi v11041 c0_i32_1632
  let v11049 : Index := Scalar.indexCast v11048
  ![v11049.toNat]

def k0_off48 (k0_t2 : Fin k0_t2_loop.trips) (v11043 : BitVec 32) (c0_i32_1633 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v11044 : BitVec 32 := Scalar.addi v10547 v11043
  let v11052 : BitVec 32 := Scalar.addi v11044 c0_i32_1633
  let v11053 : Index := Scalar.indexCast v11052
  ![v11053.toNat]

def k0_chk24 (k0_t2 : Fin k0_t2_loop.trips) (v11043 : BitVec 32) : Prop :=
  (∀ (r : Fin 2), ∀ a, (k0_off48 k0_t2 v11043 (BitVec.ofNat 32 (16 * r.val))) a + S16.size a ≤ S32768.size a)
theorem k0_off48_inb : ∀ (k0_t2 : Fin k0_t2_loop.trips) (v11043 : BitVec 32) (k0_hw24 : k0_chk24 k0_t2 v11043), ∀ (r : Fin 2), ∀ a, (k0_off48 k0_t2 v11043 (BitVec.ofNat 32 (16 * r.val))) a + S16.size a ≤ S32768.size a := fun k0_t2 v11043 k0_hw24 r => k0_hw24 r

def k0_off49 (k0_t2 : Fin k0_t2_loop.trips) (k0_t3 : Fin k0_t3_loop.trips) (c0_i32_1634 : BitVec 32) : Fin 1 → Nat :=
  let c0_i32_1543 : BitVec 32 := 0#32
  let c1_i32_1545 : BitVec 32 := 1#32
  let arg15 : BitVec 32 := Scf.iv c0_i32_1543 c1_i32_1545 k0_t2
  let c2048_i32_1549 : BitVec 32 := 2048#32
  let v10548 : BitVec 32 := Scalar.muli arg15 c2048_i32_1549
  let c0_i32_1551 : BitVec 32 := 0#32
  let c1_i32_1553 : BitVec 32 := 1#32
  let arg17 : BitVec 32 := Scf.iv c0_i32_1551 c1_i32_1553 k0_t3
  let c16_i32_1559 : BitVec 32 := 16#32
  let v10563 : BitVec 32 := Scalar.muli arg17 c16_i32_1559
  let c32_i32_1560 : BitVec 32 := 32#32
  let v10564 : BitVec 32 := Scalar.muli v10563 c32_i32_1560
  let v10565 : BitVec 32 := Scalar.addi v10548 v10564
  let c352_i32 : BitVec 32 := 352#32
  let v11047 : BitVec 32 := Scalar.addi v10565 c352_i32
  let v11060 : BitVec 32 := Scalar.addi v11047 c0_i32_1634
  let v11061 : Index := Scalar.indexCast v11060
  ![v11061.toNat]
def k0_off50 (k0_t2 : Fin k0_t2_loop.trips) (v11040 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v11041 : BitVec 32 := Scalar.addi v10547 v11040
  let c16_i32_1635 : BitVec 32 := 16#32
  let v11065 : BitVec 32 := Scalar.addi v11041 c16_i32_1635
  let v11066 : Index := Scalar.indexCast v11065
  ![v11066.toNat]

def k0_chk23 (k0_t2 : Fin k0_t2_loop.trips) (v11040 : BitVec 32) : Prop :=
  (∀ a, (k0_off47 k0_t2 v11040) a + S16.size a ≤ S32768.size a) ∧
  (∀ a, (k0_off50 k0_t2 v11040) a + S16.size a ≤ S32768.size a)
theorem k0_off47_inb : ∀ (k0_t2 : Fin k0_t2_loop.trips) (v11040 : BitVec 32) (k0_hw23 : k0_chk23 k0_t2 v11040), ∀ a, (k0_off47 k0_t2 v11040) a + S16.size a ≤ S32768.size a := fun k0_t2 v11040 k0_hw23 => k0_hw23.1
theorem k0_off50_inb : ∀ (k0_t2 : Fin k0_t2_loop.trips) (v11040 : BitVec 32) (k0_hw23 : k0_chk23 k0_t2 v11040), ∀ a, (k0_off50 k0_t2 v11040) a + S16.size a ≤ S32768.size a := fun k0_t2 v11040 k0_hw23 => k0_hw23.2

def k0_off51 (k0_t2 : Fin k0_t2_loop.trips) (v11083 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v11084 : BitVec 32 := Scalar.addi v10547 v11083
  let c0_i32_1638 : BitVec 32 := 0#32
  let v11091 : BitVec 32 := Scalar.addi v11084 c0_i32_1638
  let v11092 : Index := Scalar.indexCast v11091
  ![v11092.toNat]

def k0_off52 (k0_t2 : Fin k0_t2_loop.trips) (v11086 : BitVec 32) (c0_i32_1639 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v11087 : BitVec 32 := Scalar.addi v10547 v11086
  let v11095 : BitVec 32 := Scalar.addi v11087 c0_i32_1639
  let v11096 : Index := Scalar.indexCast v11095
  ![v11096.toNat]

def k0_chk26 (k0_t2 : Fin k0_t2_loop.trips) (v11086 : BitVec 32) : Prop :=
  (∀ (r : Fin 2), ∀ a, (k0_off52 k0_t2 v11086 (BitVec.ofNat 32 (16 * r.val))) a + S16.size a ≤ S32768.size a)
theorem k0_off52_inb : ∀ (k0_t2 : Fin k0_t2_loop.trips) (v11086 : BitVec 32) (k0_hw26 : k0_chk26 k0_t2 v11086), ∀ (r : Fin 2), ∀ a, (k0_off52 k0_t2 v11086 (BitVec.ofNat 32 (16 * r.val))) a + S16.size a ≤ S32768.size a := fun k0_t2 v11086 k0_hw26 r => k0_hw26 r

def k0_off53 (k0_t2 : Fin k0_t2_loop.trips) (k0_t3 : Fin k0_t3_loop.trips) (c0_i32_1640 : BitVec 32) : Fin 1 → Nat :=
  let c0_i32_1543 : BitVec 32 := 0#32
  let c1_i32_1545 : BitVec 32 := 1#32
  let arg15 : BitVec 32 := Scf.iv c0_i32_1543 c1_i32_1545 k0_t2
  let c2048_i32_1549 : BitVec 32 := 2048#32
  let v10548 : BitVec 32 := Scalar.muli arg15 c2048_i32_1549
  let c0_i32_1551 : BitVec 32 := 0#32
  let c1_i32_1553 : BitVec 32 := 1#32
  let arg17 : BitVec 32 := Scf.iv c0_i32_1551 c1_i32_1553 k0_t3
  let c16_i32_1559 : BitVec 32 := 16#32
  let v10563 : BitVec 32 := Scalar.muli arg17 c16_i32_1559
  let c32_i32_1560 : BitVec 32 := 32#32
  let v10564 : BitVec 32 := Scalar.muli v10563 c32_i32_1560
  let v10565 : BitVec 32 := Scalar.addi v10548 v10564
  let c384_i32 : BitVec 32 := 384#32
  let v11090 : BitVec 32 := Scalar.addi v10565 c384_i32
  let v11103 : BitVec 32 := Scalar.addi v11090 c0_i32_1640
  let v11104 : Index := Scalar.indexCast v11103
  ![v11104.toNat]
def k0_off54 (k0_t2 : Fin k0_t2_loop.trips) (v11083 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v11084 : BitVec 32 := Scalar.addi v10547 v11083
  let c16_i32_1641 : BitVec 32 := 16#32
  let v11108 : BitVec 32 := Scalar.addi v11084 c16_i32_1641
  let v11109 : Index := Scalar.indexCast v11108
  ![v11109.toNat]

def k0_chk25 (k0_t2 : Fin k0_t2_loop.trips) (v11083 : BitVec 32) : Prop :=
  (∀ a, (k0_off51 k0_t2 v11083) a + S16.size a ≤ S32768.size a) ∧
  (∀ a, (k0_off54 k0_t2 v11083) a + S16.size a ≤ S32768.size a)
theorem k0_off51_inb : ∀ (k0_t2 : Fin k0_t2_loop.trips) (v11083 : BitVec 32) (k0_hw25 : k0_chk25 k0_t2 v11083), ∀ a, (k0_off51 k0_t2 v11083) a + S16.size a ≤ S32768.size a := fun k0_t2 v11083 k0_hw25 => k0_hw25.1
theorem k0_off54_inb : ∀ (k0_t2 : Fin k0_t2_loop.trips) (v11083 : BitVec 32) (k0_hw25 : k0_chk25 k0_t2 v11083), ∀ a, (k0_off54 k0_t2 v11083) a + S16.size a ≤ S32768.size a := fun k0_t2 v11083 k0_hw25 => k0_hw25.2

def k0_off55 (k0_t2 : Fin k0_t2_loop.trips) (v11126 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v11127 : BitVec 32 := Scalar.addi v10547 v11126
  let c0_i32_1644 : BitVec 32 := 0#32
  let v11134 : BitVec 32 := Scalar.addi v11127 c0_i32_1644
  let v11135 : Index := Scalar.indexCast v11134
  ![v11135.toNat]

def k0_off56 (k0_t2 : Fin k0_t2_loop.trips) (v11129 : BitVec 32) (c0_i32_1645 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v11130 : BitVec 32 := Scalar.addi v10547 v11129
  let v11138 : BitVec 32 := Scalar.addi v11130 c0_i32_1645
  let v11139 : Index := Scalar.indexCast v11138
  ![v11139.toNat]

def k0_chk28 (k0_t2 : Fin k0_t2_loop.trips) (v11129 : BitVec 32) : Prop :=
  (∀ (r : Fin 2), ∀ a, (k0_off56 k0_t2 v11129 (BitVec.ofNat 32 (16 * r.val))) a + S16.size a ≤ S32768.size a)
theorem k0_off56_inb : ∀ (k0_t2 : Fin k0_t2_loop.trips) (v11129 : BitVec 32) (k0_hw28 : k0_chk28 k0_t2 v11129), ∀ (r : Fin 2), ∀ a, (k0_off56 k0_t2 v11129 (BitVec.ofNat 32 (16 * r.val))) a + S16.size a ≤ S32768.size a := fun k0_t2 v11129 k0_hw28 r => k0_hw28 r

def k0_off57 (k0_t2 : Fin k0_t2_loop.trips) (k0_t3 : Fin k0_t3_loop.trips) (c0_i32_1646 : BitVec 32) : Fin 1 → Nat :=
  let c0_i32_1543 : BitVec 32 := 0#32
  let c1_i32_1545 : BitVec 32 := 1#32
  let arg15 : BitVec 32 := Scf.iv c0_i32_1543 c1_i32_1545 k0_t2
  let c2048_i32_1549 : BitVec 32 := 2048#32
  let v10548 : BitVec 32 := Scalar.muli arg15 c2048_i32_1549
  let c0_i32_1551 : BitVec 32 := 0#32
  let c1_i32_1553 : BitVec 32 := 1#32
  let arg17 : BitVec 32 := Scf.iv c0_i32_1551 c1_i32_1553 k0_t3
  let c16_i32_1559 : BitVec 32 := 16#32
  let v10563 : BitVec 32 := Scalar.muli arg17 c16_i32_1559
  let c32_i32_1560 : BitVec 32 := 32#32
  let v10564 : BitVec 32 := Scalar.muli v10563 c32_i32_1560
  let v10565 : BitVec 32 := Scalar.addi v10548 v10564
  let c416_i32 : BitVec 32 := 416#32
  let v11133 : BitVec 32 := Scalar.addi v10565 c416_i32
  let v11146 : BitVec 32 := Scalar.addi v11133 c0_i32_1646
  let v11147 : Index := Scalar.indexCast v11146
  ![v11147.toNat]
def k0_off58 (k0_t2 : Fin k0_t2_loop.trips) (v11126 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v11127 : BitVec 32 := Scalar.addi v10547 v11126
  let c16_i32_1647 : BitVec 32 := 16#32
  let v11151 : BitVec 32 := Scalar.addi v11127 c16_i32_1647
  let v11152 : Index := Scalar.indexCast v11151
  ![v11152.toNat]

def k0_chk27 (k0_t2 : Fin k0_t2_loop.trips) (v11126 : BitVec 32) : Prop :=
  (∀ a, (k0_off55 k0_t2 v11126) a + S16.size a ≤ S32768.size a) ∧
  (∀ a, (k0_off58 k0_t2 v11126) a + S16.size a ≤ S32768.size a)
theorem k0_off55_inb : ∀ (k0_t2 : Fin k0_t2_loop.trips) (v11126 : BitVec 32) (k0_hw27 : k0_chk27 k0_t2 v11126), ∀ a, (k0_off55 k0_t2 v11126) a + S16.size a ≤ S32768.size a := fun k0_t2 v11126 k0_hw27 => k0_hw27.1
theorem k0_off58_inb : ∀ (k0_t2 : Fin k0_t2_loop.trips) (v11126 : BitVec 32) (k0_hw27 : k0_chk27 k0_t2 v11126), ∀ a, (k0_off58 k0_t2 v11126) a + S16.size a ≤ S32768.size a := fun k0_t2 v11126 k0_hw27 => k0_hw27.2

def k0_off59 (k0_t2 : Fin k0_t2_loop.trips) (v11169 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v11170 : BitVec 32 := Scalar.addi v10547 v11169
  let c0_i32_1650 : BitVec 32 := 0#32
  let v11177 : BitVec 32 := Scalar.addi v11170 c0_i32_1650
  let v11178 : Index := Scalar.indexCast v11177
  ![v11178.toNat]

def k0_off60 (k0_t2 : Fin k0_t2_loop.trips) (v11172 : BitVec 32) (c0_i32_1651 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v11173 : BitVec 32 := Scalar.addi v10547 v11172
  let v11181 : BitVec 32 := Scalar.addi v11173 c0_i32_1651
  let v11182 : Index := Scalar.indexCast v11181
  ![v11182.toNat]

def k0_chk30 (k0_t2 : Fin k0_t2_loop.trips) (v11172 : BitVec 32) : Prop :=
  (∀ (r : Fin 2), ∀ a, (k0_off60 k0_t2 v11172 (BitVec.ofNat 32 (16 * r.val))) a + S16.size a ≤ S32768.size a)
theorem k0_off60_inb : ∀ (k0_t2 : Fin k0_t2_loop.trips) (v11172 : BitVec 32) (k0_hw30 : k0_chk30 k0_t2 v11172), ∀ (r : Fin 2), ∀ a, (k0_off60 k0_t2 v11172 (BitVec.ofNat 32 (16 * r.val))) a + S16.size a ≤ S32768.size a := fun k0_t2 v11172 k0_hw30 r => k0_hw30 r

def k0_off61 (k0_t2 : Fin k0_t2_loop.trips) (k0_t3 : Fin k0_t3_loop.trips) (c0_i32_1652 : BitVec 32) : Fin 1 → Nat :=
  let c0_i32_1543 : BitVec 32 := 0#32
  let c1_i32_1545 : BitVec 32 := 1#32
  let arg15 : BitVec 32 := Scf.iv c0_i32_1543 c1_i32_1545 k0_t2
  let c2048_i32_1549 : BitVec 32 := 2048#32
  let v10548 : BitVec 32 := Scalar.muli arg15 c2048_i32_1549
  let c0_i32_1551 : BitVec 32 := 0#32
  let c1_i32_1553 : BitVec 32 := 1#32
  let arg17 : BitVec 32 := Scf.iv c0_i32_1551 c1_i32_1553 k0_t3
  let c16_i32_1559 : BitVec 32 := 16#32
  let v10563 : BitVec 32 := Scalar.muli arg17 c16_i32_1559
  let c32_i32_1560 : BitVec 32 := 32#32
  let v10564 : BitVec 32 := Scalar.muli v10563 c32_i32_1560
  let v10565 : BitVec 32 := Scalar.addi v10548 v10564
  let c448_i32 : BitVec 32 := 448#32
  let v11176 : BitVec 32 := Scalar.addi v10565 c448_i32
  let v11189 : BitVec 32 := Scalar.addi v11176 c0_i32_1652
  let v11190 : Index := Scalar.indexCast v11189
  ![v11190.toNat]
def k0_off62 (k0_t2 : Fin k0_t2_loop.trips) (v11169 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v11170 : BitVec 32 := Scalar.addi v10547 v11169
  let c16_i32_1653 : BitVec 32 := 16#32
  let v11194 : BitVec 32 := Scalar.addi v11170 c16_i32_1653
  let v11195 : Index := Scalar.indexCast v11194
  ![v11195.toNat]

def k0_chk29 (k0_t2 : Fin k0_t2_loop.trips) (v11169 : BitVec 32) : Prop :=
  (∀ a, (k0_off59 k0_t2 v11169) a + S16.size a ≤ S32768.size a) ∧
  (∀ a, (k0_off62 k0_t2 v11169) a + S16.size a ≤ S32768.size a)
theorem k0_off59_inb : ∀ (k0_t2 : Fin k0_t2_loop.trips) (v11169 : BitVec 32) (k0_hw29 : k0_chk29 k0_t2 v11169), ∀ a, (k0_off59 k0_t2 v11169) a + S16.size a ≤ S32768.size a := fun k0_t2 v11169 k0_hw29 => k0_hw29.1
theorem k0_off62_inb : ∀ (k0_t2 : Fin k0_t2_loop.trips) (v11169 : BitVec 32) (k0_hw29 : k0_chk29 k0_t2 v11169), ∀ a, (k0_off62 k0_t2 v11169) a + S16.size a ≤ S32768.size a := fun k0_t2 v11169 k0_hw29 => k0_hw29.2

def k0_off63 (k0_t2 : Fin k0_t2_loop.trips) (v11212 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v11213 : BitVec 32 := Scalar.addi v10547 v11212
  let c0_i32_1656 : BitVec 32 := 0#32
  let v11220 : BitVec 32 := Scalar.addi v11213 c0_i32_1656
  let v11221 : Index := Scalar.indexCast v11220
  ![v11221.toNat]

def k0_off64 (k0_t2 : Fin k0_t2_loop.trips) (v11215 : BitVec 32) (c0_i32_1657 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v11216 : BitVec 32 := Scalar.addi v10547 v11215
  let v11224 : BitVec 32 := Scalar.addi v11216 c0_i32_1657
  let v11225 : Index := Scalar.indexCast v11224
  ![v11225.toNat]

def k0_chk32 (k0_t2 : Fin k0_t2_loop.trips) (v11215 : BitVec 32) : Prop :=
  (∀ (r : Fin 2), ∀ a, (k0_off64 k0_t2 v11215 (BitVec.ofNat 32 (16 * r.val))) a + S16.size a ≤ S32768.size a)
theorem k0_off64_inb : ∀ (k0_t2 : Fin k0_t2_loop.trips) (v11215 : BitVec 32) (k0_hw32 : k0_chk32 k0_t2 v11215), ∀ (r : Fin 2), ∀ a, (k0_off64 k0_t2 v11215 (BitVec.ofNat 32 (16 * r.val))) a + S16.size a ≤ S32768.size a := fun k0_t2 v11215 k0_hw32 r => k0_hw32 r

def k0_off65 (k0_t2 : Fin k0_t2_loop.trips) (k0_t3 : Fin k0_t3_loop.trips) (c0_i32_1658 : BitVec 32) : Fin 1 → Nat :=
  let c0_i32_1543 : BitVec 32 := 0#32
  let c1_i32_1545 : BitVec 32 := 1#32
  let arg15 : BitVec 32 := Scf.iv c0_i32_1543 c1_i32_1545 k0_t2
  let c2048_i32_1549 : BitVec 32 := 2048#32
  let v10548 : BitVec 32 := Scalar.muli arg15 c2048_i32_1549
  let c0_i32_1551 : BitVec 32 := 0#32
  let c1_i32_1553 : BitVec 32 := 1#32
  let arg17 : BitVec 32 := Scf.iv c0_i32_1551 c1_i32_1553 k0_t3
  let c16_i32_1559 : BitVec 32 := 16#32
  let v10563 : BitVec 32 := Scalar.muli arg17 c16_i32_1559
  let c32_i32_1560 : BitVec 32 := 32#32
  let v10564 : BitVec 32 := Scalar.muli v10563 c32_i32_1560
  let v10565 : BitVec 32 := Scalar.addi v10548 v10564
  let c480_i32 : BitVec 32 := 480#32
  let v11219 : BitVec 32 := Scalar.addi v10565 c480_i32
  let v11232 : BitVec 32 := Scalar.addi v11219 c0_i32_1658
  let v11233 : Index := Scalar.indexCast v11232
  ![v11233.toNat]
def k0_off66 (k0_t2 : Fin k0_t2_loop.trips) (v11212 : BitVec 32) : Fin 1 → Nat :=
  let c0_i32_1543 : BitVec 32 := 0#32
  let c1_i32_1545 : BitVec 32 := 1#32
  let arg15 : BitVec 32 := Scf.iv c0_i32_1543 c1_i32_1545 k0_t2
  let c4096_i32_1548 : BitVec 32 := 4096#32
  let v10547 : BitVec 32 := Scalar.muli arg15 c4096_i32_1548
  let v11213 : BitVec 32 := Scalar.addi v10547 v11212
  let c16_i32_1659 : BitVec 32 := 16#32
  let v11237 : BitVec 32 := Scalar.addi v11213 c16_i32_1659
  let v11238 : Index := Scalar.indexCast v11237
  ![v11238.toNat]

def k0_chk31 (k0_t2 : Fin k0_t2_loop.trips) (v11212 : BitVec 32) : Prop :=
  (∀ a, (k0_off63 k0_t2 v11212) a + S16.size a ≤ S32768.size a) ∧
  (∀ a, (k0_off66 k0_t2 v11212) a + S16.size a ≤ S32768.size a)
theorem k0_off63_inb : ∀ (k0_t2 : Fin k0_t2_loop.trips) (v11212 : BitVec 32) (k0_hw31 : k0_chk31 k0_t2 v11212), ∀ a, (k0_off63 k0_t2 v11212) a + S16.size a ≤ S32768.size a := fun k0_t2 v11212 k0_hw31 => k0_hw31.1
theorem k0_off66_inb : ∀ (k0_t2 : Fin k0_t2_loop.trips) (v11212 : BitVec 32) (k0_hw31 : k0_chk31 k0_t2 v11212), ∀ a, (k0_off66 k0_t2 v11212) a + S16.size a ≤ S32768.size a := fun k0_t2 v11212 k0_hw31 => k0_hw31.2

def k0_off67 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v10538 : BitVec 32 := Scalar.muli v1 c256_i32
  let c0_i32_1537 : BitVec 32 := 0#32
  let c1_i32_1539 : BitVec 32 := 1#32
  let arg13 : BitVec 32 := Scf.iv c0_i32_1537 c1_i32_1539 k0_t1
  let c8_i32_1541 : BitVec 32 := 8#32
  let v10541 : BitVec 32 := Scalar.muli arg13 c8_i32_1541
  let v10542 : BitVec 32 := Scalar.addi v10538 v10541
  let c2048_i32 : BitVec 32 := 2048#32
  let v10546 : BitVec 32 := Scalar.muli v10542 c2048_i32
  ![v10546.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128 : Shape := ⟨1, ![128]⟩
abbrev S4x2048x128x32 : Shape := ⟨4, ![4, 2048, 128, 32]⟩
abbrev S64 : Shape := ⟨1, ![64]⟩
abbrev S1x128 : Shape := ⟨2, ![1, 128]⟩
abbrev S64x1 : Shape := ⟨2, ![64, 1]⟩
abbrev S64x128 : Shape := ⟨2, ![64, 128]⟩
abbrev S_ : Shape := ⟨0, ![]⟩
abbrev S4x2048x64x32 : Shape := ⟨4, ![4, 2048, 64, 32]⟩
abbrev S1x1x64x1 : Shape := ⟨4, ![1, 1, 64, 1]⟩

abbrev nBuf : Space → Nat
  | .hbm => 89
  | .vmem => 0
  | .smem => 0
  | _ => 0

abbrev bufTy : (tb : Table) → Fin (tcTables nBuf tb) → BufTy
  | .hbm, ⟨0, _⟩ => ⟨S128, .f32⟩
  | .hbm, ⟨1, _⟩ => ⟨S4x2048x128x32, .f32⟩
  | .hbm, ⟨2, _⟩ => ⟨S64, .f32⟩
  | .hbm, ⟨3, _⟩ => ⟨S1x128, .f32⟩
  | .hbm, ⟨4, _⟩ => ⟨S64x1, .f32⟩
  | .hbm, ⟨5, _⟩ => ⟨S64x128, .f32⟩
  | .hbm, ⟨6, _⟩ => ⟨S64x128, .f32⟩
  | .hbm, ⟨7, _⟩ => ⟨S64x128, .i1⟩
  | .hbm, ⟨8, _⟩ => ⟨S64x128, .i32⟩
  | .hbm, ⟨9, _⟩ => ⟨S_, .i32⟩
  | .hbm, ⟨10, _⟩ => ⟨S64, .i32⟩
  | .hbm, ⟨11, _⟩ => ⟨S_, .i32⟩
  | .hbm, ⟨12, _⟩ => ⟨S64, .i32⟩
  | .hbm, ⟨13, _⟩ => ⟨S64, .i32⟩
  | .hbm, ⟨14, _⟩ => ⟨S_, .i32⟩
  | .hbm, ⟨15, _⟩ => ⟨S64, .i32⟩
  | .hbm, ⟨16, _⟩ => ⟨S64, .i32⟩
  | .hbm, ⟨17, _⟩ => ⟨S_, .i32⟩
  | .hbm, ⟨18, _⟩ => ⟨S64, .i32⟩
  | .hbm, ⟨19, _⟩ => ⟨S64, .i32⟩
  | .hbm, ⟨20, _⟩ => ⟨S_, .i32⟩
  | .hbm, ⟨21, _⟩ => ⟨S64, .i32⟩
  | .hbm, ⟨22, _⟩ => ⟨S64, .i1⟩
  | .hbm, ⟨23, _⟩ => ⟨S_, .i32⟩
  | .hbm, ⟨24, _⟩ => ⟨S64, .i32⟩
  | .hbm, ⟨25, _⟩ => ⟨S64, .i32⟩
  | .hbm, ⟨26, _⟩ => ⟨S64, .i32⟩
  | .hbm, ⟨27, _⟩ => ⟨S64x1, .i32⟩
  | .hbm, ⟨28, _⟩ => ⟨S64, .f32⟩
  | .hbm, ⟨29, _⟩ => ⟨S64, .i1⟩
  | .hbm, ⟨30, _⟩ => ⟨S_, .i32⟩
  | .hbm, ⟨31, _⟩ => ⟨S64, .i32⟩
  | .hbm, ⟨32, _⟩ => ⟨S64, .i1⟩
  | .hbm, ⟨33, _⟩ => ⟨S64, .i1⟩
  | .hbm, ⟨34, _⟩ => ⟨S_, .i32⟩
  | .hbm, ⟨35, _⟩ => ⟨S64, .i32⟩
  | .hbm, ⟨36, _⟩ => ⟨S64, .i32⟩
  | .hbm, ⟨37, _⟩ => ⟨S64, .i32⟩
  | .hbm, ⟨38, _⟩ => ⟨S_, .i32⟩
  | .hbm, ⟨39, _⟩ => ⟨S64, .i32⟩
  | .hbm, ⟨40, _⟩ => ⟨S64, .i1⟩
  | .hbm, ⟨41, _⟩ => ⟨S_, .i32⟩
  | .hbm, ⟨42, _⟩ => ⟨S64, .i32⟩
  | .hbm, ⟨43, _⟩ => ⟨S64, .i32⟩
  | .hbm, ⟨44, _⟩ => ⟨S64, .i32⟩
  | .hbm, ⟨45, _⟩ => ⟨S64x1, .i32⟩
  | .hbm, ⟨46, _⟩ => ⟨S64, .f32⟩
  | .hbm, ⟨47, _⟩ => ⟨S_, .i32⟩
  | .hbm, ⟨48, _⟩ => ⟨S64, .i32⟩
  | .hbm, ⟨49, _⟩ => ⟨S64, .i1⟩
  | .hbm, ⟨50, _⟩ => ⟨S_, .i32⟩
  | .hbm, ⟨51, _⟩ => ⟨S64, .i32⟩
  | .hbm, ⟨52, _⟩ => ⟨S64, .i32⟩
  | .hbm, ⟨53, _⟩ => ⟨S64, .i32⟩
  | .hbm, ⟨54, _⟩ => ⟨S64x1, .i32⟩
  | .hbm, ⟨55, _⟩ => ⟨S64, .f32⟩
  | .hbm, ⟨56, _⟩ => ⟨S_, .i32⟩
  | .hbm, ⟨57, _⟩ => ⟨S64, .i32⟩
  | .hbm, ⟨58, _⟩ => ⟨S64, .i1⟩
  | .hbm, ⟨59, _⟩ => ⟨S_, .i32⟩
  | .hbm, ⟨60, _⟩ => ⟨S64, .i32⟩
  | .hbm, ⟨61, _⟩ => ⟨S64, .i32⟩
  | .hbm, ⟨62, _⟩ => ⟨S64, .i32⟩
  | .hbm, ⟨63, _⟩ => ⟨S64x1, .i32⟩
  | .hbm, ⟨64, _⟩ => ⟨S4x2048x64x32, .f32⟩
  | .hbm, ⟨65, _⟩ => ⟨S_, .i32⟩
  | .hbm, ⟨66, _⟩ => ⟨S64, .i32⟩
  | .hbm, ⟨67, _⟩ => ⟨S64, .i1⟩
  | .hbm, ⟨68, _⟩ => ⟨S_, .i32⟩
  | .hbm, ⟨69, _⟩ => ⟨S64, .i32⟩
  | .hbm, ⟨70, _⟩ => ⟨S64, .i32⟩
  | .hbm, ⟨71, _⟩ => ⟨S64, .i32⟩
  | .hbm, ⟨72, _⟩ => ⟨S64x1, .i32⟩
  | .hbm, ⟨73, _⟩ => ⟨S4x2048x64x32, .f32⟩
  | .hbm, ⟨74, _⟩ => ⟨S64, .f32⟩
  | .hbm, ⟨75, _⟩ => ⟨S_, .f32⟩
  | .hbm, ⟨76, _⟩ => ⟨S64, .f32⟩
  | .hbm, ⟨77, _⟩ => ⟨S64, .i1⟩
  | .hbm, ⟨78, _⟩ => ⟨S_, .f32⟩
  | .hbm, ⟨79, _⟩ => ⟨S_, .f32⟩
  | .hbm, ⟨80, _⟩ => ⟨S64, .f32⟩
  | .hbm, ⟨81, _⟩ => ⟨S64, .f32⟩
  | .hbm, ⟨82, _⟩ => ⟨S64, .f32⟩
  | .hbm, ⟨83, _⟩ => ⟨S64, .f32⟩
  | .hbm, ⟨84, _⟩ => ⟨S1x1x64x1, .f32⟩
  | .hbm, ⟨85, _⟩ => ⟨S4x2048x64x32, .f32⟩
  | .hbm, ⟨86, _⟩ => ⟨S4x2048x64x32, .f32⟩
  | .hbm, ⟨87, _⟩ => ⟨S4x2048x64x32, .f32⟩
  | .hbm, ⟨88, _⟩ => ⟨S4x2048x64x32, .f32⟩
  | _, _ => ⟨S128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_c_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_7 : Ref sig .tc := ⟨.hbm, 38, rfl⟩
abbrev main_v27 : Ref sig .tc := ⟨.hbm, 39, rfl⟩
abbrev main_v28 : Ref sig .tc := ⟨.hbm, 40, rfl⟩
abbrev main_c_8 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_9 : Ref sig .tc := ⟨.hbm, 47, rfl⟩
abbrev main_v34 : Ref sig .tc := ⟨.hbm, 48, rfl⟩
abbrev main_v35 : Ref sig .tc := ⟨.hbm, 49, rfl⟩
abbrev main_c_10 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_11 : Ref sig .tc := ⟨.hbm, 56, rfl⟩
abbrev main_v41 : Ref sig .tc := ⟨.hbm, 57, rfl⟩
abbrev main_v42 : Ref sig .tc := ⟨.hbm, 58, rfl⟩
abbrev main_c_12 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_13 : Ref sig .tc := ⟨.hbm, 65, rfl⟩
abbrev main_v48 : Ref sig .tc := ⟨.hbm, 66, rfl⟩
abbrev main_v49 : Ref sig .tc := ⟨.hbm, 67, rfl⟩
abbrev main_c_14 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst : Ref sig .tc := ⟨.hbm, 75, rfl⟩
abbrev main_v56 : Ref sig .tc := ⟨.hbm, 76, rfl⟩
abbrev main_v57 : Ref sig .tc := ⟨.hbm, 77, rfl⟩
abbrev main_cst_15 : Ref sig .tc := ⟨.hbm, 78, rfl⟩
abbrev main_call1_v0 : Ref sig .tc := ⟨.hbm, 79, rfl⟩
abbrev main_call1_v1 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩

abbrev nD : Nat := 1
abbrev τ : Topo := Topo.v7x

variable {F : FTy → Type} [FloatOps F]
-- ==== Proof.KernelIdeal.Base.lean ====
/-
  The kernel as the launch theorem sees it, and the small program logic its straight-line parts are read in: a triple
  `Tri P p v R` says that from the resources `P` the program `p` ends with the value `v` and the resources `R`.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The side conditions of the launch on the program's semaphores and buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The thread of a tile, and its scratch -/

abbrev cV (L : grid0.Coords) : Fin τ.nSC := (L 0).castLE hcore0
abbrev jV (L : grid0.Coords) : Fin τ.nSub := (L 1).castLE hsub0
/-- The vector subcore at grid point `L` of device `d`. -/
abbrev thr (d : Dev nD) (L : grid0.Coords) : Thread nD τ := V d (cV L) (jV L)

local notation "tmH" => (Memref.whole Cert.KernelIdeal.main_arg0_scv : Memref Cert.KernelIdeal.sig Kind.scVector Space.hbm Cert.KernelIdeal.S128 EltTy.f32)
local notation "tqH" => (Memref.whole Cert.KernelIdeal.main_arg2_scv : Memref Cert.KernelIdeal.sig Kind.scVector Space.hbm Cert.KernelIdeal.S64 EltTy.f32)
local notation "xH" => (Memref.whole Cert.KernelIdeal.main_v0_scv : Memref Cert.KernelIdeal.sig Kind.scVector Space.hbm Cert.KernelIdeal.S33554432 EltTy.f32)
local notation "oH" => (Memref.whole Cert.KernelIdeal.main_v1_scv : Memref Cert.KernelIdeal.sig Kind.scVector Space.hbm Cert.KernelIdeal.S16777216 EltTy.f32)
local notation "tmV" => (Memref.whole Cert.KernelIdeal.cc0_scratch0 : Memref Cert.KernelIdeal.sig Kind.scVector Space.vmem Cert.KernelIdeal.S128 EltTy.f32)
local notation "tqV" => (Memref.whole Cert.KernelIdeal.cc0_scratch1 : Memref Cert.KernelIdeal.sig Kind.scVector Space.vmem Cert.KernelIdeal.S64 EltTy.f32)
local notation "lfV" => (Memref.whole Cert.KernelIdeal.cc0_scratch2 : Memref Cert.KernelIdeal.sig Kind.scVector Space.vmem Cert.KernelIdeal.S64 EltTy.i32)
local notation "rtV" => (Memref.whole Cert.KernelIdeal.cc0_scratch3 : Memref Cert.KernelIdeal.sig Kind.scVector Space.vmem Cert.KernelIdeal.S64 EltTy.i32)
local notation "wtV" => (Memref.whole Cert.KernelIdeal.cc0_scratch4 : Memref Cert.KernelIdeal.sig Kind.scVector Space.vmem Cert.KernelIdeal.S64 EltTy.f32)
local notation "inV" => (Memref.whole Cert.KernelIdeal.cc0_scratch5 : Memref Cert.KernelIdeal.sig Kind.scVector Space.vmem Cert.KernelIdeal.S32768 EltTy.f32)
local notation "ouV" => (Memref.whole Cert.KernelIdeal.cc0_scratch6 : Memref Cert.KernelIdeal.sig Kind.scVector Space.vmem Cert.KernelIdeal.S16384 EltTy.f32)

variable [FloatOps F]

/-! ## Triples -/

abbrev PROG (L : grid0.Coords) (α : Type) : Type 1 := Prog (TpuEff nD τ sig (Elt F) Λ₀ (.scVector (cV L) (jV L))) α

/-- The weakest precondition at the tile. -/
abbrev WP (d : Dev nD) (L : grid0.Coords) {α : Type} (p : PROG (F := F) L α) (Q : α → sProp 𝕄) : sProp 𝕄 :=
  wp frame (wpE (defs₀ (F := F)) 𝒱₀ (thr d L) none) Set.univ p Q

/-- From `P` the program `p` ends with value `v` and resources `R`. -/
def Tri (d : Dev nD) (L : grid0.Coords) {α : Type} (P : sProp 𝕄) (p : PROG (F := F) L α) (v : α) (R : sProp 𝕄) : Prop :=
  ∀ Q : α → sProp 𝕄, iprop(P ∗ (R -∗ Q v)) ⊢ WP d L p Q

variable {d : Dev nD} {L : grid0.Coords} {α β : Type}

theorem Tri.ret {P : sProp 𝕄} {x v : α} (h : x = v) : Tri (F := F) d L P (pure x) v P := by
  intro Q; subst h
  rw [WP, wp_pure]
  iintro ⟨HP, HQ⟩
  imodintro
  iapply HQ; iexact HP

theorem Tri.bind {P R T : sProp 𝕄} {p : PROG (F := F) L α} {k : α → PROG (F := F) L β} {v : α} {w : β}
    (hp : Tri d L P p v R) (hk : Tri d L R (k v) w T) : Tri (F := F) d L P (p >>= k) w T := by
  intro Q
  rw [WP, wp_bind]
  refine BI.Entails.trans ?_ (hp fun a => WP d L (k a) Q)
  show iprop(P ∗ (T -∗ Q w)) ⊢ iprop(P ∗ (R -∗ WP d L (k v) Q))
  iintro ⟨HP, HQ⟩
  isplitl [HP]; · iexact HP
  iintro HR
  iapply (hk Q)
  isplitl [HR]; · iexact HR
  iexact HQ

end Cert.KernelIdeal.Hand

end
-- ==== Proof.KernelIdeal.Search.lean ====
/-
  The search for the grid point of every query: its vectors in closed form, and the loads and stores of the tables it
  reads and fills as triples.
-/
module

public import proofs.«01_k».proof.Proof.KernelIdeal.Base
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Pipeline.Value
public import proofs.«01_k».proof.Proof.Gen.KernelIdeal
public import proofs.«01_k».proof.Proof.Gen.KernelIdeal.Skeleton

@[expose] public section

set_option maxRecDepth 16384

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tmH" => (Memref.whole Cert.KernelIdeal.main_arg0_scv : Memref Cert.KernelIdeal.sig Kind.scVector Space.hbm Cert.KernelIdeal.S128 EltTy.f32)
local notation "tqH" => (Memref.whole Cert.KernelIdeal.main_arg2_scv : Memref Cert.KernelIdeal.sig Kind.scVector Space.hbm Cert.KernelIdeal.S64 EltTy.f32)
local notation "xH" => (Memref.whole Cert.KernelIdeal.main_v0_scv : Memref Cert.KernelIdeal.sig Kind.scVector Space.hbm Cert.KernelIdeal.S33554432 EltTy.f32)
local notation "oH" => (Memref.whole Cert.KernelIdeal.main_v1_scv : Memref Cert.KernelIdeal.sig Kind.scVector Space.hbm Cert.KernelIdeal.S16777216 EltTy.f32)
local notation "tmV" => (Memref.whole Cert.KernelIdeal.cc0_scratch0 : Memref Cert.KernelIdeal.sig Kind.scVector Space.vmem Cert.KernelIdeal.S128 EltTy.f32)
local notation "tqV" => (Memref.whole Cert.KernelIdeal.cc0_scratch1 : Memref Cert.KernelIdeal.sig Kind.scVector Space.vmem Cert.KernelIdeal.S64 EltTy.f32)
local notation "lfV" => (Memref.whole Cert.KernelIdeal.cc0_scratch2 : Memref Cert.KernelIdeal.sig Kind.scVector Space.vmem Cert.KernelIdeal.S64 EltTy.i32)
local notation "rtV" => (Memref.whole Cert.KernelIdeal.cc0_scratch3 : Memref Cert.KernelIdeal.sig Kind.scVector Space.vmem Cert.KernelIdeal.S64 EltTy.i32)
local notation "wtV" => (Memref.whole Cert.KernelIdeal.cc0_scratch4 : Memref Cert.KernelIdeal.sig Kind.scVector Space.vmem Cert.KernelIdeal.S64 EltTy.f32)
local notation "inV" => (Memref.whole Cert.KernelIdeal.cc0_scratch5 : Memref Cert.KernelIdeal.sig Kind.scVector Space.vmem Cert.KernelIdeal.S32768 EltTy.f32)
local notation "ouV" => (Memref.whole Cert.KernelIdeal.cc0_scratch6 : Memref Cert.KernelIdeal.sig Kind.scVector Space.vmem Cert.KernelIdeal.S16384 EltTy.f32)

/-! ## Blocks of sixteen -/

section Blocks

variable {α : Type} {s : Shape}

/-- The index of a shape all of whose coordinates are `k`, reduced to the extents. -/
def pos (hs : ∀ a, 0 < s.size a) (k : ℕ) : s.Idx := fun a => ⟨k % s.size a, Nat.mod_lt _ (hs a)⟩

/-- The sixteen entries of `f` from `n` on. -/
def blk (hs : ∀ a, 0 < s.size a) (f : s.Idx → α) (n : ℕ) : S16.Idx → α := fun j => f (pos hs (n + (j 0).val))

/-- Lane `l` of a vector of sixteen. -/
theorem lane_eq (l : ℕ) (x : S16.Idx → α) (h : S16.Slices ![l] S1) (hp : ∀ a, (![0] : Fin 1 → ℕ) a < S1.size a) :
    extractAt (s := S1) ![0] (extractStridedSlice S1 ![l] x h) hp = x fun a => ⟨l % S16.size a, by
      have : ∀ a, 0 < S16.size a := by decide
      exact Nat.mod_lt _ (this a)⟩ := by
  unfold extractAt extractStridedSlice
  refine congrArg x (funext fun a => Fin.ext ?_)
  have h2 := h.2 a
  match a with
  | 0 =>
    have : l + 1 ≤ 16 := h2
    show l + 0 = l % 16
    omega

/-- Lane `l` of a block. -/
theorem lane_blk (hs : ∀ a, 0 < s.size a) (f : s.Idx → α) (n l : ℕ) (h : S16.Slices ![l] S1)
    (hp : ∀ a, (![0] : Fin 1 → ℕ) a < S1.size a) :
    extractAt (s := S1) ![0] (extractStridedSlice S1 ![l] (blk hs f n) h) hp = f (pos hs (n + l)) := by
  rw [lane_eq]
  have h2 : l + 1 ≤ 16 := h.2 0
  show f (pos hs (n + l % 16)) = _
  rw [Nat.mod_eq_of_lt (by omega)]

/-- `f` with the sixteen entries from `n` on replaced by `w`. -/
def setBlk {N : ℕ} (f : (⟨1, ![N]⟩ : Shape).Idx → α) (n : ℕ) (w : S16.Idx → α) : (⟨1, ![N]⟩ : Shape).Idx → α := fun i =>
  if h : n ≤ (i 0).val ∧ (i 0).val < n + 16 then w fun | 0 => ⟨(i 0).val - n, by show _ < 16; omega⟩ else f i

/-- A slice of sixteen entries replaced, in that form. -/
theorem updateSlice_eq {N : ℕ} (f : (⟨1, ![N]⟩ : Shape).Idx → α) (w : S16.Idx → α) (off : Fin 1 → ℕ) (h : (⟨1, ![N]⟩ : Shape).Slices off S16) :
    updateSlice f w off h = setBlk f (off 0) w := by
  funext i
  unfold updateSlice setBlk
  by_cases hc : off 0 ≤ (i 0).val ∧ (i 0).val < off 0 + 16
  · rw [dif_pos hc, dif_pos (show _ from fun | 0 => hc)]
    refine congrArg w (funext fun a => Fin.ext ?_)
    match a with
    | 0 => rfl
  · rw [dif_neg hc, dif_neg fun hh => hc (hh 0)]

/-- Reading sixteen entries of a vector from `off` on reads the block there. -/
theorem idx_eq {N : ℕ} (hN : ∀ a, 0 < (⟨1, ![N]⟩ : Shape).size a) (off : Fin 1 → ℕ) (inb : ∀ a, off a + S16.size a ≤ (⟨1, ![N]⟩ : Shape).size a)
    (f : (⟨1, ![N]⟩ : Shape).Idx → α) :
    (fun j => f ((Rect.unit (s := (⟨1, ![N]⟩ : Shape)) off S16.size inb).toLoadRect.idx j)) = blk hN f (off 0) := by
  funext j
  refine congrArg f (funext fun a => Fin.ext ?_)
  match a with
  | 0 =>
    have h : off 0 + 16 ≤ N := inb 0
    have hj : (j 0).val < 16 := (j 0).isLt
    show off 0 + 1 * (j 0).val = (off 0 + (j 0).val) % N
    rw [Nat.mod_eq_of_lt (by omega), one_mul]

/-- A cast of a vector of sixteen to its own shape changes nothing. -/
theorem cast_eq16 (x : S16.Idx → α) (h : S16.ShapeCasts S16) : shapeCast S16 x h = x := by
  funext j
  unfold shapeCast
  exact congrArg x (by simp [Shape.reshapeEquiv])

end Blocks

theorem pos128 : ∀ a, 0 < S128.size a := by decide
theorem pos64 : ∀ a, 0 < S64.size a := by decide

/-! ## Loads and stores, and the resources of the search -/

section Triples

variable [FloatOps F] {d : Dev nD} {L : grid0.Coords} {α : Type}

/-- A load, from resources that contain the buffer read. -/
theorem Tri.load {cs : CoreSpace} {s : Shape} {e : EltTy} {m : Memref sig .scVector cs s e} {r : LoadRect s} {hl : m.view.LoadsAt r}
    {g : Buf (Elt F) (m.view.loc (thr d L))} {P : sProp 𝕄} {Z : Buf (Elt F) (m.view.loc (thr d L)) → sProp 𝕄}
    (hP : P ⊢ iprop((m.view.loc (thr d L) ↦{fullShare} g) ∗ ∀ g', (m.view.loc (thr d L) ↦{fullShare} g') -∗ Z g')) (hZ : Z g = P)
    {y : r.shape.Idx → Elt F e} (hy : m.view.readAt (Elt F) r g = y)
    {k : (r.shape.Idx → Elt F e) → PROG (F := F) L α} {v : α} {R : sProp 𝕄} (h : Tri d L P (k y) v R) :
    Tri d L P (Prog.lift (.load m r hl) >>= k) v R := by
  intro Q
  subst hy
  refine (sep_mono_left hP).trans ?_
  rw [WP, Prog.bind_lift]
  iintro ⟨⟨H1, H2⟩, HQ⟩
  iapply (wp_load 𝒱₀ (thr d L) none Set.univ (m := m) (r := r) (S := Finset.univ) (Finset.subset_univ _)) $$ H1
  iintro H1
  iapply (h Q)
  isplitr [HQ]
  · rw [← hZ]; iapply H2; iexact H1
  iexact HQ

/-- A store, from resources that contain the buffer written. -/
theorem Tri.store {cs : CoreSpace} {s : Shape} {e : EltTy} {m : Memref sig .scVector cs s e} {r : Rect s} {w : r.shape.Idx → Elt F e} {hx} {hm}
    {g : Buf (Elt F) (m.view.loc (thr d L))} {P : sProp 𝕄} {Z : Buf (Elt F) (m.view.loc (thr d L)) → sProp 𝕄}
    (hP : P ⊢ iprop((m.view.loc (thr d L) ↦{fullShare} g) ∗ ∀ g', (m.view.loc (thr d L) ↦{fullShare} g') -∗ Z g'))
    {g' : Buf (Elt F) (m.view.loc (thr d L))} (hg : (m.access r).write (Elt F) g w Finset.univ = g')
    {k : PUnit → PROG (F := F) L α} {v : α} {R : sProp 𝕄} (h : Tri d L (Z g') (k ⟨⟩) v R) :
    Tri d L P (Prog.lift (.store m r w Finset.univ hx hm) >>= k) v R := by
  intro Q
  subst hg
  refine (sep_mono_left hP).trans ?_
  rw [WP, Prog.bind_lift]
  iintro ⟨⟨H1, H2⟩, HQ⟩
  iapply (wp_store 𝒱₀ (thr d L) none Set.univ (m := m) (r := r) (S := Finset.univ) (Finset.subset_univ _)) $$ H1
  iintro H1
  iapply (h Q)
  isplitr [HQ]
  · iapply H2; iexact H1
  iexact HQ

/-- The five scratch vectors of the search: the grid, the queries, and the tables of left words, right words and
    weights, beside whatever else is held. -/
def Srch (d : Dev nD) (L : grid0.Coords) (Z : sProp 𝕄) (f : S128.Idx → F .f32) (q : S64.Idx → F .f32) (lf rt : S64.Idx → BitVec 32)
    (wt : S64.Idx → F .f32) : sProp 𝕄 :=
  iprop(Z ∗ ((tmV).view.loc (thr d L) ↦{fullShare} f) ∗ ((tqV).view.loc (thr d L) ↦{fullShare} q)
    ∗ ((lfV).view.loc (thr d L) ↦{fullShare} lf) ∗ ((rtV).view.loc (thr d L) ↦{fullShare} rt)
    ∗ ((wtV).view.loc (thr d L) ↦{fullShare} wt))

variable {f : S128.Idx → F .f32} {q : S64.Idx → F .f32} {lf rt : S64.Idx → BitVec 32} {wt : S64.Idx → F .f32}
variable {off : Fin 1 → ℕ} {v : α}

/-- Each of the five taken out, and any contents of it put back. -/
theorem Srch.has_tm {Z : sProp 𝕄} : (Srch d L Z f q lf rt wt : sProp 𝕄) ⊢ iprop(((tmV).view.loc (thr d L) ↦{fullShare} f)
    ∗ ∀ g', ((tmV).view.loc (thr d L) ↦{fullShare} g') -∗ Srch d L Z g' q lf rt wt) := by
  unfold Srch; iintro ⟨HZ, H1, H2, H3, H4, H5⟩
  isplitl [H1]; · iexact H1
  iintro %g' H; isplitl [HZ]; · iexact HZ
  isplitl [H]; · iexact H
  isplitl [H2]; · iexact H2
  isplitl [H3]; · iexact H3
  isplitl [H4] <;> iassumption
theorem Srch.has_tq {Z : sProp 𝕄} : (Srch d L Z f q lf rt wt : sProp 𝕄) ⊢ iprop(((tqV).view.loc (thr d L) ↦{fullShare} q)
    ∗ ∀ g', ((tqV).view.loc (thr d L) ↦{fullShare} g') -∗ Srch d L Z f g' lf rt wt) := by
  unfold Srch; iintro ⟨HZ, H1, H2, H3, H4, H5⟩
  isplitl [H2]; · iexact H2
  iintro %g' H; isplitl [HZ]; · iexact HZ
  isplitl [H1]; · iexact H1
  isplitl [H]; · iexact H
  isplitl [H3]; · iexact H3
  isplitl [H4] <;> iassumption
theorem Srch.has_lf {Z : sProp 𝕄} : (Srch d L Z f q lf rt wt : sProp 𝕄) ⊢ iprop(((lfV).view.loc (thr d L) ↦{fullShare} lf)
    ∗ ∀ g', ((lfV).view.loc (thr d L) ↦{fullShare} g') -∗ Srch d L Z f q g' rt wt) := by
  unfold Srch; iintro ⟨HZ, H1, H2, H3, H4, H5⟩
  isplitl [H3]; · iexact H3
  iintro %g' H; isplitl [HZ]; · iexact HZ
  isplitl [H1]; · iexact H1
  isplitl [H2]; · iexact H2
  isplitl [H]; · iexact H
  isplitl [H4] <;> iassumption
theorem Srch.has_rt {Z : sProp 𝕄} : (Srch d L Z f q lf rt wt : sProp 𝕄) ⊢ iprop(((rtV).view.loc (thr d L) ↦{fullShare} rt)
    ∗ ∀ g', ((rtV).view.loc (thr d L) ↦{fullShare} g') -∗ Srch d L Z f q lf g' wt) := by
  unfold Srch; iintro ⟨HZ, H1, H2, H3, H4, H5⟩
  isplitl [H4]; · iexact H4
  iintro %g' H; isplitl [HZ]; · iexact HZ
  isplitl [H1]; · iexact H1
  isplitl [H2]; · iexact H2
  isplitl [H3]; · iexact H3
  isplitl [H] <;> iassumption
theorem Srch.has_wt {Z : sProp 𝕄} : (Srch d L Z f q lf rt wt : sProp 𝕄) ⊢ iprop(((wtV).view.loc (thr d L) ↦{fullShare} wt)
    ∗ ∀ g', ((wtV).view.loc (thr d L) ↦{fullShare} g') -∗ Srch d L Z f q lf rt g') := by
  unfold Srch; iintro ⟨HZ, H1, H2, H3, H4, H5⟩
  isplitl [H5]; · iexact H5
  iintro %g' H; isplitl [HZ]; · iexact HZ
  isplitl [H1]; · iexact H1
  isplitl [H2]; · iexact H2
  isplitl [H3]; · iexact H3
  isplitl [H4] <;> iassumption

/-- A load of sixteen grid points. -/
theorem Tri.load_tm {inb : ∀ a, off a + S16.size a ≤ S128.size a} {hl} {k : Vec F S16 .f32 → PROG (F := F) L α} {Z R : sProp 𝕄}
    (h : Tri d L (Srch d L Z f q lf rt wt) (k (blk pos128 f (off 0))) v R) :
    Tri d L (Srch d L Z f q lf rt wt) (Prog.lift (.load tmV (Rect.unit (s := S128) off S16.size inb).toLoadRect hl) >>= k) v R :=
  Tri.load (m := tmV) Srch.has_tm rfl (idx_eq pos128 off inb f) h
/-- A load of sixteen queries. -/
theorem Tri.load_tq {inb : ∀ a, off a + S16.size a ≤ S64.size a} {hl} {k : Vec F S16 .f32 → PROG (F := F) L α} {Z R : sProp 𝕄}
    (h : Tri d L (Srch d L Z f q lf rt wt) (k (blk pos64 q (off 0))) v R) :
    Tri d L (Srch d L Z f q lf rt wt) (Prog.lift (.load tqV (Rect.unit (s := S64) off S16.size inb).toLoadRect hl) >>= k) v R :=
  Tri.load (m := tqV) Srch.has_tq rfl (idx_eq pos64 off inb q) h
/-- A load of sixteen entries of each of the tables filled. -/
theorem Tri.load_lf {inb : ∀ a, off a + S16.size a ≤ S64.size a} {hl} {k : Vec F S16 .i32 → PROG (F := F) L α} {Z R : sProp 𝕄}
    (h : Tri d L (Srch d L Z f q lf rt wt) (k (blk pos64 lf (off 0))) v R) :
    Tri d L (Srch d L Z f q lf rt wt) (Prog.lift (.load lfV (Rect.unit (s := S64) off S16.size inb).toLoadRect hl) >>= k) v R :=
  Tri.load (m := lfV) Srch.has_lf rfl (idx_eq pos64 off inb lf) h
theorem Tri.load_rt {inb : ∀ a, off a + S16.size a ≤ S64.size a} {hl} {k : Vec F S16 .i32 → PROG (F := F) L α} {Z R : sProp 𝕄}
    (h : Tri d L (Srch d L Z f q lf rt wt) (k (blk pos64 rt (off 0))) v R) :
    Tri d L (Srch d L Z f q lf rt wt) (Prog.lift (.load rtV (Rect.unit (s := S64) off S16.size inb).toLoadRect hl) >>= k) v R :=
  Tri.load (m := rtV) Srch.has_rt rfl (idx_eq pos64 off inb rt) h
theorem Tri.load_wt {inb : ∀ a, off a + S16.size a ≤ S64.size a} {hl} {k : Vec F S16 .f32 → PROG (F := F) L α} {Z R : sProp 𝕄}
    (h : Tri d L (Srch d L Z f q lf rt wt) (k (blk pos64 wt (off 0))) v R) :
    Tri d L (Srch d L Z f q lf rt wt) (Prog.lift (.load wtV (Rect.unit (s := S64) off S16.size inb).toLoadRect hl) >>= k) v R :=
  Tri.load (m := wtV) Srch.has_wt rfl (idx_eq pos64 off inb wt) h
/-- A store of sixteen entries of each of the tables filled. -/
theorem Tri.store_lf {inb : ∀ a, off a + S16.size a ≤ S64.size a} {w : S16.Idx → BitVec 32} {hx} {hm} {k : PUnit → PROG (F := F) L α} {Z R : sProp 𝕄}
    (h : Tri d L (Srch d L Z f q (setBlk lf (off 0) w) rt wt) (k ⟨⟩) v R) :
    Tri d L (Srch d L Z f q lf rt wt) (Prog.lift (.store lfV (Rect.unit (s := S64) off S16.size inb) w Finset.univ hx hm) >>= k) v R :=
  Tri.store (m := lfV) Srch.has_lf ((View.write_whole_slice_unit (Val := Elt F) cc0_scratch2 off S16.size inb lf w).trans (updateSlice_eq lf w off _)) h
theorem Tri.store_rt {inb : ∀ a, off a + S16.size a ≤ S64.size a} {w : S16.Idx → BitVec 32} {hx} {hm} {k : PUnit → PROG (F := F) L α} {Z R : sProp 𝕄}
    (h : Tri d L (Srch d L Z f q lf (setBlk rt (off 0) w) wt) (k ⟨⟩) v R) :
    Tri d L (Srch d L Z f q lf rt wt) (Prog.lift (.store rtV (Rect.unit (s := S64) off S16.size inb) w Finset.univ hx hm) >>= k) v R :=
  Tri.store (m := rtV) Srch.has_rt ((View.write_whole_slice_unit (Val := Elt F) cc0_scratch3 off S16.size inb rt w).trans (updateSlice_eq rt w off _)) h
theorem Tri.store_wt {inb : ∀ a, off a + S16.size a ≤ S64.size a} {w : S16.Idx → F .f32} {hx} {hm} {k : PUnit → PROG (F := F) L α} {Z R : sProp 𝕄}
    (h : Tri d L (Srch d L Z f q lf rt (setBlk wt (off 0) w)) (k ⟨⟩) v R) :
    Tri d L (Srch d L Z f q lf rt wt) (Prog.lift (.store wtV (Rect.unit (s := S64) off S16.size inb) w Finset.univ hx hm) >>= k) v R :=
  Tri.store (m := wtV) Srch.has_wt ((View.write_whole_slice_unit (Val := Elt F) cc0_scratch4 off S16.size inb wt w).trans (updateSlice_eq wt w off _)) h

end Triples

/-! ## The search's vectors -/

section Chains

variable [FloatOps F]

/-- Grid point `n`. -/
def tAt (f : S128.Idx → F .f32) (n : ℕ) : F .f32 := f (pos pos128 n)

theorem lane_tm (f : S128.Idx → F .f32) (n l : ℕ) (h : S16.Slices ![l] S1) (hp : ∀ a, (![0] : Fin 1 → ℕ) a < S1.size a) :
    extractAt (s := S1) ![0] (extractStridedSlice S1 ![l] (blk pos128 f n) h) hp = tAt f (n + l) := lane_blk ..

/-- How many of the first `n` grid points lie below each query of the vector `u`. -/
def cntV (f : S128.Idx → F .f32) (u : FVec F S16 .f32) : ℕ → IVec S16 32
  | 0 => broadcast S16 0#32
  | n + 1 => addi (cntV f u n) (select (cmpf .olt (broadcast S16 (tAt f n)) u) (broadcast S16 1#32) (broadcast S16 0#32))

theorem cntV_zero (f : S128.Idx → F .f32) (u : FVec F S16 .f32) :
    addi (broadcast S16 0#32) (select (cmpf .olt (broadcast S16 (tAt f 0)) u) (broadcast S16 1#32) (broadcast S16 0#32)) = cntV f u 1 := rfl
theorem cntV_succ (f : S128.Idx → F .f32) (u : FVec F S16 .f32) (n : ℕ) :
    addi (cntV f u n) (select (cmpf .olt (broadcast S16 (tAt f n)) u) (broadcast S16 1#32) (broadcast S16 0#32)) = cntV f u (n + 1) := rfl

/-- The one of the first `n` grid points that each word of `k` numbers, zero where it numbers none. -/
def selV (f : S128.Idx → F .f32) (k : IVec S16 32) : ℕ → FVec F S16 .f32
  | 0 => broadcast S16 (Scalar.ofBits .f32 0x00000000#32)
  | n + 1 => select (cmpi .eq k (broadcast S16 (BitVec.ofNat 32 n))) (broadcast S16 (tAt f n)) (selV f k n)

theorem selV_zero (f : S128.Idx → F .f32) (k : IVec S16 32) :
    select (cmpi .eq k (broadcast S16 0#32)) (broadcast S16 (tAt f 0)) (broadcast S16 (Scalar.ofBits .f32 0x00000000#32)) = selV f k 1 := rfl
theorem selV_succ (f : S128.Idx → F .f32) (k : IVec S16 32) (n : ℕ) :
    select (cmpi .eq k (broadcast S16 (BitVec.ofNat 32 n))) (broadcast S16 (tAt f n)) (selV f k n) = selV f k (n + 1) := rfl

/-- The right neighbour's number, the left neighbour's before the correction, and the number before that. -/
def rightV (f : S128.Idx → F .f32) (u : FVec F S16 .f32) : IVec S16 32 := minsi (cntV f u 128) (broadcast S16 127#32)
def leftV (f : S128.Idx → F .f32) (u : FVec F S16 .f32) : IVec S16 32 := maxsi (subi (rightV f u) (broadcast S16 1#32)) (broadcast S16 0#32)
def left2V (f : S128.Idx → F .f32) (u : FVec F S16 .f32) : IVec S16 32 := subi (leftV f u) (broadcast S16 1#32)

theorem rightV_fold (f : S128.Idx → F .f32) (u : FVec F S16 .f32) : minsi (cntV f u 128) (broadcast S16 127#32) = rightV f u := rfl
theorem leftV_fold (f : S128.Idx → F .f32) (u : FVec F S16 .f32) :
    maxsi (subi (rightV f u) (broadcast S16 1#32)) (broadcast S16 0#32) = leftV f u := rfl
theorem left2V_fold (f : S128.Idx → F .f32) (u : FVec F S16 .f32) : subi (leftV f u) (broadcast S16 1#32) = left2V f u := rfl

/-- Where the left neighbour is the query itself, and has a neighbour to its own left. -/
def gridV (f : S128.Idx → F .f32) (u : FVec F S16 .f32) : IVec S16 1 :=
  andi (cmpf .oeq (selV f (leftV f u) 128) u) (cmpi .sgt (leftV f u) (broadcast S16 0#32))
/-- The left neighbour's grid point, corrected. -/
def tlV (f : S128.Idx → F .f32) (u : FVec F S16 .f32) : FVec F S16 .f32 :=
  select (gridV f u) (selV f (left2V f u) 128) (selV f (leftV f u) 128)
/-- The distance of the two grid points. -/
def tdV (f : S128.Idx → F .f32) (u : FVec F S16 .f32) : FVec F S16 .f32 := subf (selV f (rightV f u) 128) (tlV f u)
/-- The weight of the right neighbour. -/
def wgV (f : S128.Idx → F .f32) (u : FVec F S16 .f32) : FVec F S16 .f32 :=
  divf (subf u (tlV f u)) (select (cmpf .oeq (tdV f u) (broadcast S16 (Scalar.ofBits .f32 0x00000000#32)))
    (broadcast S16 (Scalar.ofBits .f32 0x358637BD#32)) (tdV f u))
/-- Where the left neighbour's row begins in an observation, and where the right neighbour's does. -/
def lwV (f : S128.Idx → F .f32) (u : FVec F S16 .f32) : IVec S16 32 :=
  muli (select (gridV f u) (left2V f u) (leftV f u)) (broadcast S16 32#32)
def rwV (f : S128.Idx → F .f32) (u : FVec F S16 .f32) : IVec S16 32 := muli (rightV f u) (broadcast S16 32#32)

theorem gridV_fold (f : S128.Idx → F .f32) (u : FVec F S16 .f32) :
    andi (cmpf .oeq (selV f (leftV f u) 128) u) (cmpi .sgt (leftV f u) (broadcast S16 0#32)) = gridV f u := rfl
theorem tlV_fold (f : S128.Idx → F .f32) (u : FVec F S16 .f32) :
    select (gridV f u) (selV f (left2V f u) 128) (selV f (leftV f u) 128) = tlV f u := rfl
theorem tdV_fold (f : S128.Idx → F .f32) (u : FVec F S16 .f32) : subf (selV f (rightV f u) 128) (tlV f u) = tdV f u := rfl
theorem wgV_fold (f : S128.Idx → F .f32) (u : FVec F S16 .f32) :
    divf (subf u (tlV f u)) (select (cmpf .oeq (tdV f u) (broadcast S16 (Scalar.ofBits .f32 0x00000000#32)))
      (broadcast S16 (Scalar.ofBits .f32 0x358637BD#32)) (tdV f u)) = wgV f u := rfl
theorem lwV_fold (f : S128.Idx → F .f32) (u : FVec F S16 .f32) :
    muli (select (gridV f u) (left2V f u) (leftV f u)) (broadcast S16 32#32) = lwV f u := rfl
theorem rwV_fold (f : S128.Idx → F .f32) (u : FVec F S16 .f32) : muli (rightV f u) (broadcast S16 32#32) = rwV f u := rfl

end Chains

end Cert.KernelIdeal.Hand

end
-- ==== Proof.KernelIdeal.Inner.lean ====
/-
  The interpolation of a group of observations: the value of every word of its result, and the loads and stores of the
  inner loops as triples.
-/
module

public import proofs.«01_k».proof.Proof.KernelIdeal.Base
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Pipeline.Value
public import proofs.«01_k».proof.Proof.Gen.KernelIdeal
public import proofs.«01_k».proof.Proof.KernelIdeal.Search
public import proofs.«01_k».proof.Proof.Gen.KernelIdeal.Skeleton

@[expose] public section

set_option maxRecDepth 16384

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tmH" => (Memref.whole Cert.KernelIdeal.main_arg0_scv : Memref Cert.KernelIdeal.sig Kind.scVector Space.hbm Cert.KernelIdeal.S128 EltTy.f32)
local notation "tqH" => (Memref.whole Cert.KernelIdeal.main_arg2_scv : Memref Cert.KernelIdeal.sig Kind.scVector Space.hbm Cert.KernelIdeal.S64 EltTy.f32)
local notation "xH" => (Memref.whole Cert.KernelIdeal.main_v0_scv : Memref Cert.KernelIdeal.sig Kind.scVector Space.hbm Cert.KernelIdeal.S33554432 EltTy.f32)
local notation "oH" => (Memref.whole Cert.KernelIdeal.main_v1_scv : Memref Cert.KernelIdeal.sig Kind.scVector Space.hbm Cert.KernelIdeal.S16777216 EltTy.f32)
local notation "tmV" => (Memref.whole Cert.KernelIdeal.cc0_scratch0 : Memref Cert.KernelIdeal.sig Kind.scVector Space.vmem Cert.KernelIdeal.S128 EltTy.f32)
local notation "tqV" => (Memref.whole Cert.KernelIdeal.cc0_scratch1 : Memref Cert.KernelIdeal.sig Kind.scVector Space.vmem Cert.KernelIdeal.S64 EltTy.f32)
local notation "lfV" => (Memref.whole Cert.KernelIdeal.cc0_scratch2 : Memref Cert.KernelIdeal.sig Kind.scVector Space.vmem Cert.KernelIdeal.S64 EltTy.i32)
local notation "rtV" => (Memref.whole Cert.KernelIdeal.cc0_scratch3 : Memref Cert.KernelIdeal.sig Kind.scVector Space.vmem Cert.KernelIdeal.S64 EltTy.i32)
local notation "wtV" => (Memref.whole Cert.KernelIdeal.cc0_scratch4 : Memref Cert.KernelIdeal.sig Kind.scVector Space.vmem Cert.KernelIdeal.S64 EltTy.f32)
local notation "inV" => (Memref.whole Cert.KernelIdeal.cc0_scratch5 : Memref Cert.KernelIdeal.sig Kind.scVector Space.vmem Cert.KernelIdeal.S32768 EltTy.f32)
local notation "ouV" => (Memref.whole Cert.KernelIdeal.cc0_scratch6 : Memref Cert.KernelIdeal.sig Kind.scVector Space.vmem Cert.KernelIdeal.S16384 EltTy.f32)

/-! ## The inner loops: one observation after another, its rows interpolated -/

theorem posI : ∀ a, 0 < S32768.size a := by decide
theorem posO : ∀ a, 0 < S16384.size a := by decide

section Model

variable [FloatOps F]

/-- Word `p` of a group's result: observation `p / 2048` of the group, query `p % 2048 / 32`, channel `p % 32`, from the
    group's observations `x` and the three tables. -/
def grpVal (x : S32768.Idx → F .f32) (lf rt : S64.Idx → BitVec 32) (wt : S64.Idx → F .f32) (p : ℕ) : F .f32 :=
  FloatOps.addf (x (pos posI (4096 * (p / 2048) + (lf (pos pos64 (p % 2048 / 32))).toNat + p % 32)))
    (FloatOps.mulf (wt (pos pos64 (p % 2048 / 32)))
      (FloatOps.subf (x (pos posI (4096 * (p / 2048) + (rt (pos pos64 (p % 2048 / 32))).toNat + p % 32)))
        (x (pos posI (4096 * (p / 2048) + (lf (pos pos64 (p % 2048 / 32))).toNat + p % 32)))))

end Model

section Offsets

/-- Where the body stores lane `a / 32`'s half `c`, as it computes it. -/
def outOff (t2 : Fin k0_t2_loop.trips) (t3 : Fin k0_t3_loop.trips) (a c : BitVec 32) : Fin 1 → ℕ :=
  ![(Scalar.indexCast (Scalar.addi (Scalar.addi (Scalar.addi (Scalar.muli (Scf.iv 0#32 1#32 t2) 2048#32)
    (Scalar.muli (Scalar.muli (Scf.iv 0#32 1#32 t3) 16#32) 32#32)) a) c)).toNat]

theorem outOff_eq : ∀ (t2 : Fin k0_t2_loop.trips) (t3 : Fin k0_t3_loop.trips) (l : Fin 16) (c : Fin 2),
    outOff t2 t3 (BitVec.ofNat 32 (32 * l.val)) (BitVec.ofNat 32 (16 * c.val)) 0 = 2048 * t2.val + 512 * t3.val + 32 * l.val + 16 * c.val := by
  decide +kernel

/-- The sum a load's offset is, for a word that names a row. -/
theorem k0_off4_at (t2 : Fin k0_t2_loop.trips) (w : BitVec 32) (hw : w.toNat ≤ 4064) (c : ℕ) (hc : c < 2) :
    k0_off4 t2 w (BitVec.ofNat 32 (16 * c)) 0 = 4096 * t2.val + w.toNat + 16 * c := by
  have ht : ∀ t : Fin k0_t2_loop.trips, (Scalar.muli (Scf.iv 0#32 1#32 t) 4096#32 : BitVec 32).toNat = 4096 * t.val ∧ t.val < 8 := by decide +kernel
  obtain ⟨h1, h2⟩ := ht t2
  show ((Scalar.muli (Scf.iv 0#32 1#32 t2) 4096#32 : BitVec 32) + w + BitVec.ofNat 32 (16 * c)).toNat = _
  rw [BitVec.toNat_add, BitVec.toNat_add, h1, BitVec.toNat_ofNat]
  omega

theorem k0_off4_ok (t2 : Fin k0_t2_loop.trips) (w : BitVec 32) (hw : w.toNat ≤ 4064) (r : Fin 2) (a : Fin 1) :
    k0_off4 t2 w (BitVec.ofNat 32 (16 * r.val)) a + S16.size a ≤ S32768.size a := by
  have ht : ∀ t : Fin k0_t2_loop.trips, t.val < 8 := by decide
  have := ht t2
  have hr := r.isLt
  match a with
  | 0 => rw [k0_off4_at t2 w hw r.val hr]; show _ + 16 ≤ 32768; omega

end Offsets

section Triples

variable [FloatOps F] {d : Dev nD} {L : grid0.Coords} {α : Type}

/-- What the interpolation holds: the group's observations, the three tables and the result, beside whatever else is held. -/
def Grp (d : Dev nD) (L : grid0.Coords) (Z : sProp 𝕄) (x : S32768.Idx → F .f32) (lf rt : S64.Idx → BitVec 32)
    (wt : S64.Idx → F .f32) (o : S16384.Idx → F .f32) : sProp 𝕄 :=
  iprop(Z ∗ ((inV).view.loc (thr d L) ↦{fullShare} x) ∗ ((lfV).view.loc (thr d L) ↦{fullShare} lf)
    ∗ ((rtV).view.loc (thr d L) ↦{fullShare} rt) ∗ ((wtV).view.loc (thr d L) ↦{fullShare} wt)
    ∗ ((ouV).view.loc (thr d L) ↦{fullShare} o))

/-- The contents `o` with the first `n` words replaced by `g`'s. -/
def upTo (g : ℕ → F .f32) (o : S16384.Idx → F .f32) (n : ℕ) : S16384.Idx → F .f32 := fun i => if (i 0).val < n then g (i 0).val else o i

variable {x : S32768.Idx → F .f32} {lf rt : S64.Idx → BitVec 32} {wt : S64.Idx → F .f32} {o : S16384.Idx → F .f32}
variable {off : Fin 1 → ℕ} {v : α}

/-- Each of the five taken out and any contents put back. -/
theorem Grp.has_in {Z : sProp 𝕄} : (Grp d L Z x lf rt wt o : sProp 𝕄) ⊢ iprop(((inV).view.loc (thr d L) ↦{fullShare} x)
    ∗ ∀ g', ((inV).view.loc (thr d L) ↦{fullShare} g') -∗ Grp d L Z g' lf rt wt o) := by
  unfold Grp; iintro ⟨HZ, H1, H2, H3, H4, H5⟩
  isplitl [H1]; · iexact H1
  iintro %g' H; isplitl [HZ]; · iexact HZ
  isplitl [H]; · iexact H
  isplitl [H2]; · iexact H2
  isplitl [H3]; · iexact H3
  isplitl [H4]; · iexact H4
  iexact H5
theorem Grp.has_lf {Z : sProp 𝕄} : (Grp d L Z x lf rt wt o : sProp 𝕄) ⊢ iprop(((lfV).view.loc (thr d L) ↦{fullShare} lf)
    ∗ ∀ g', ((lfV).view.loc (thr d L) ↦{fullShare} g') -∗ Grp d L Z x g' rt wt o) := by
  unfold Grp; iintro ⟨HZ, H1, H2, H3, H4, H5⟩
  isplitl [H2]; · iexact H2
  iintro %g' H; isplitl [HZ]; · iexact HZ
  isplitl [H1]; · iexact H1
  isplitl [H]; · iexact H
  isplitl [H3]; · iexact H3
  isplitl [H4]; · iexact H4
  iexact H5
theorem Grp.has_rt {Z : sProp 𝕄} : (Grp d L Z x lf rt wt o : sProp 𝕄) ⊢ iprop(((rtV).view.loc (thr d L) ↦{fullShare} rt)
    ∗ ∀ g', ((rtV).view.loc (thr d L) ↦{fullShare} g') -∗ Grp d L Z x lf g' wt o) := by
  unfold Grp; iintro ⟨HZ, H1, H2, H3, H4, H5⟩
  isplitl [H3]; · iexact H3
  iintro %g' H; isplitl [HZ]; · iexact HZ
  isplitl [H1]; · iexact H1
  isplitl [H2]; · iexact H2
  isplitl [H]; · iexact H
  isplitl [H4]; · iexact H4
  iexact H5
theorem Grp.has_wt {Z : sProp 𝕄} : (Grp d L Z x lf rt wt o : sProp 𝕄) ⊢ iprop(((wtV).view.loc (thr d L) ↦{fullShare} wt)
    ∗ ∀ g', ((wtV).view.loc (thr d L) ↦{fullShare} g') -∗ Grp d L Z x lf rt g' o) := by
  unfold Grp; iintro ⟨HZ, H1, H2, H3, H4, H5⟩
  isplitl [H4]; · iexact H4
  iintro %g' H; isplitl [HZ]; · iexact HZ
  isplitl [H1]; · iexact H1
  isplitl [H2]; · iexact H2
  isplitl [H3]; · iexact H3
  isplitl [H]; · iexact H
  iexact H5
theorem Grp.has_ou {Z : sProp 𝕄} : (Grp d L Z x lf rt wt o : sProp 𝕄) ⊢ iprop(((ouV).view.loc (thr d L) ↦{fullShare} o)
    ∗ ∀ g', ((ouV).view.loc (thr d L) ↦{fullShare} g') -∗ Grp d L Z x lf rt wt g') := by
  unfold Grp; iintro ⟨HZ, H1, H2, H3, H4, H5⟩
  isplitl [H5]; · iexact H5
  iintro %g' H; isplitl [HZ]; · iexact HZ
  isplitl [H1]; · iexact H1
  isplitl [H2]; · iexact H2
  isplitl [H3]; · iexact H3
  isplitl [H4]; · iexact H4
  iexact H

/-- The loads of the buffers that are only read. -/
theorem Tri.read_in {inb : ∀ a, off a + S16.size a ≤ S32768.size a} {hl} {k : Vec F S16 .f32 → PROG (F := F) L α} {Z R : sProp 𝕄}
    (h : Tri d L (Grp d L Z x lf rt wt o) (k (blk posI x (off 0))) v R) :
    Tri d L (Grp d L Z x lf rt wt o) (Prog.lift (.load inV (Rect.unit (s := S32768) off S16.size inb).toLoadRect hl) >>= k) v R :=
  Tri.load (m := inV) Grp.has_in rfl (idx_eq posI off inb x) h
theorem Tri.read_lf {inb : ∀ a, off a + S16.size a ≤ S64.size a} {hl} {k : Vec F S16 .i32 → PROG (F := F) L α} {Z R : sProp 𝕄}
    (h : Tri d L (Grp d L Z x lf rt wt o) (k (blk pos64 lf (off 0))) v R) :
    Tri d L (Grp d L Z x lf rt wt o) (Prog.lift (.load lfV (Rect.unit (s := S64) off S16.size inb).toLoadRect hl) >>= k) v R :=
  Tri.load (m := lfV) Grp.has_lf rfl (idx_eq pos64 off inb lf) h
theorem Tri.read_rt {inb : ∀ a, off a + S16.size a ≤ S64.size a} {hl} {k : Vec F S16 .i32 → PROG (F := F) L α} {Z R : sProp 𝕄}
    (h : Tri d L (Grp d L Z x lf rt wt o) (k (blk pos64 rt (off 0))) v R) :
    Tri d L (Grp d L Z x lf rt wt o) (Prog.lift (.load rtV (Rect.unit (s := S64) off S16.size inb).toLoadRect hl) >>= k) v R :=
  Tri.load (m := rtV) Grp.has_rt rfl (idx_eq pos64 off inb rt) h
theorem Tri.read_wt {inb : ∀ a, off a + S16.size a ≤ S64.size a} {hl} {k : Vec F S16 .f32 → PROG (F := F) L α} {Z R : sProp 𝕄}
    (h : Tri d L (Grp d L Z x lf rt wt o) (k (blk pos64 wt (off 0))) v R) :
    Tri d L (Grp d L Z x lf rt wt o) (Prog.lift (.load wtV (Rect.unit (s := S64) off S16.size inb).toLoadRect hl) >>= k) v R :=
  Tri.load (m := wtV) Grp.has_wt rfl (idx_eq pos64 off inb wt) h

/-- A load of the result. -/
theorem Tri.read_ou {inb : ∀ a, off a + S16.size a ≤ S16384.size a} {hl} {k : Vec F S16 .f32 → PROG (F := F) L α} {Z R : sProp 𝕄}
    (h : Tri d L (Grp d L Z x lf rt wt o) (k (blk posO o (off 0))) v R) :
    Tri d L (Grp d L Z x lf rt wt o) (Prog.lift (.load ouV (Rect.unit (s := S16384) off S16.size inb).toLoadRect hl) >>= k) v R :=
  Tri.load (m := ouV) Grp.has_ou rfl (idx_eq posO off inb o) h

/-- A store of the sixteen words of the result that come next. -/
theorem Tri.fill_ou {g : ℕ → F .f32} {n : ℕ} {inb : ∀ a, off a + S16.size a ≤ S16384.size a} {w : S16.Idx → F .f32} {hx} {hm}
    {k : PUnit → PROG (F := F) L α} {Z R : sProp 𝕄}
    (hoff : off 0 = n) (hw : ∀ j : S16.Idx, w j = g (n + (j 0).val)) (h : Tri d L (Grp d L Z x lf rt wt (upTo g o (n + 16))) (k ⟨⟩) v R) :
    Tri d L (Grp d L Z x lf rt wt (upTo g o n)) (Prog.lift (.store ouV (Rect.unit (s := S16384) off S16.size inb) w Finset.univ hx hm) >>= k) v R :=
  Tri.store (m := ouV) Grp.has_ou
    ((View.write_whole_slice_unit (Val := Elt F) cc0_scratch6 off S16.size inb _ w).trans ((updateSlice_eq _ w off _).trans (by
      subst hoff
      funext i
      unfold setBlk upTo
      by_cases hc : off 0 ≤ (i 0).val ∧ (i 0).val < off 0 + 16
      · rw [dif_pos hc, hw, if_pos (by omega)]
        refine congrArg g ?_
        show off 0 + ((i 0).val - off 0) = (i 0).val
        omega
      · rw [dif_neg hc]
        by_cases hi : (i 0).val < off 0
        · rw [if_pos hi, if_pos (by omega)]
        · rw [if_neg hi, if_neg (by omega)]))) h

/-- An assumption that holds. -/
theorem Tri.assume {A : Prop} {dec : Decidable A} {P : sProp 𝕄} {k : PLift A → PROG (F := F) L α} {R : sProp 𝕄} (hA : A)
    (h : Tri d L P (k ⟨hA⟩) v R) : Tri d L P (Prog.lift (@TpuEff.assume nD τ sig (Elt F) Λ₀ (.scVector (cV L) (jV L)) A dec) >>= k) v R := by
  intro Q
  rw [WP, Prog.bind_lift]
  exact (h Q).trans (wp_assume 𝒱₀ (thr d L) none Set.univ hA)

/-- A counted loop, by what is held before each of its trips. -/
theorem Tri.loop {w : ℕ} {l : Scf.Loop w} {hok} {c : α} {body : Fin l.trips → α → PROG (F := F) L α} (I : ℕ → sProp 𝕄)
    (h : ∀ k : Fin l.trips, Tri d L (I k.val) (body k c) c (I (k.val + 1))) : Tri d L (I 0) (Scf.Loop.for l hok c body) c (I l.trips) := by
  intro Q
  refine BI.Entails.trans ?_ (Scf.wp_for frame (wpE (defs₀ (F := F)) 𝒱₀ (thr d L) none) Set.univ l.lb l.ub l.st hok c body
    (fun k a => iprop(⌜a = c⌝ ∗ I k)) fun k a => ?_)
  · show iprop(I 0 ∗ (I l.trips -∗ Q c)) ⊢ iprop((⌜c = c⌝ ∗ I 0) ∗ ∀ acc, (⌜acc = c⌝ ∗ I l.trips) -∗ Q acc)
    iintro ⟨H, HQ⟩
    isplitl [H]
    · isplitr [H]
      · ipureintro; rfl
      · iexact H
    · iintro %a ⟨%ha, H⟩
      subst ha
      iapply HQ; iexact H
  · iintro ⟨%ha, H⟩
    subst ha
    iapply (h k _)
    isplitl [H]; · iexact H
    iintro H
    isplitr [H]
    · ipureintro; rfl
    · iexact H

theorem Tri.cast {P P' R R' : sProp 𝕄} {p : PROG (F := F) L α} (hP : P = P') (hR : R = R') (h : Tri d L P' p v R') : Tri d L P p v R := by
  subst hP hR; exact h

end Triples

section Lanes

/-- Lane `l` of sixteen entries of a table, at the trip's sixteen queries. -/
theorem lane_at {β : Type} {f : S64.Idx → β} {t3 : Fin k0_t3_loop.trips} {l m : ℕ} {hc : S16.ShapeCasts S16} {h : S16.Slices ![l] S1}
    {hp : ∀ a, (![0] : Fin 1 → ℕ) a < S1.size a} (hm : l = m) :
    extractAt (s := S1) ![0] (extractStridedSlice S1 ![l] (shapeCast S16 (blk pos64 f (k0_off2 t3 0)) hc) h) hp = f (pos pos64 (16 * t3.val + m)) := by
  subst hm
  rw [cast_eq16, lane_blk, k0_off2_eq]
  rfl

/-- The offset of a load from the row such a lane names. -/
theorem off_at {t2 : Fin k0_t2_loop.trips} {c : BitVec 32} {w w' : BitVec 32} (h : w = w') : k0_off4 t2 w c = k0_off4 t2 w' c := by rw [h]

theorem lane_le {f : S64.Idx → BitVec 32} (hf : ∀ i, (f i).toNat ≤ 4064) {t3 : Fin k0_t3_loop.trips} {l : ℕ} {hc : S16.ShapeCasts S16}
    {h : S16.Slices ![l] S1} {hp : ∀ a, (![0] : Fin 1 → ℕ) a < S1.size a} :
    (extractAt (s := S1) ![0] (extractStridedSlice S1 ![l] (shapeCast S16 (blk pos64 f (k0_off2 t3 0)) hc) h) hp).toNat ≤ 4064 := by
  rw [lane_at rfl]; exact hf _

end Lanes

section Store

variable [FloatOps F] {d : Dev nD} {L : grid0.Coords} {α : Type}
variable {x : S32768.Idx → F .f32} {lf rt : S64.Idx → BitVec 32} {wt : S64.Idx → F .f32}
variable {o : S16384.Idx → F .f32} {off offl offr : Fin 1 → ℕ} {v : α}

/-- The store of half `i % 2` of the row of query `i / 2` of the trip: from the two neighbours' halves and the weight. -/
theorem Tri.fill_lane {t2 : Fin k0_t2_loop.trips} {t3 : Fin k0_t3_loop.trips} {i : ℕ}
    {inb : ∀ a, off a + S16.size a ≤ S16384.size a} {ww : F .f32} {h1 h2 h3 h4 : S16.ShapeCasts S16} {hx} {hm}
    {k : PUnit → PROG (F := F) L α} {Z R : sProp 𝕄}
    (hlf : ∀ i, (lf i).toNat ≤ 4064) (hrt : ∀ i, (rt i).toNat ≤ 4064)
    (hi : i < 32) (hw : ww = wt (pos pos64 (16 * t3.val + i / 2)))
    (ho : off = outOff t2 t3 (BitVec.ofNat 32 (32 * (i / 2))) (BitVec.ofNat 32 (16 * (i % 2))))
    (hol : offl = k0_off4 t2 (lf (pos pos64 (16 * t3.val + i / 2))) (BitVec.ofNat 32 (16 * (i % 2))))
    (hor : offr = k0_off4 t2 (rt (pos pos64 (16 * t3.val + i / 2))) (BitVec.ofNat 32 (16 * (i % 2))))
    (h : Tri d L (Grp d L Z x lf rt wt (upTo (grpVal x lf rt wt) o (2048 * t2.val + 512 * t3.val + 16 * (i + 1)))) (k ⟨⟩) v R) :
    Tri d L (Grp d L Z x lf rt wt (upTo (grpVal x lf rt wt) o (2048 * t2.val + 512 * t3.val + 16 * i)))
      (Prog.lift (.store ouV (Rect.unit (s := S16384) off S16.size inb)
        (shapeCast S16 (addf (shapeCast S16 (blk posI x (offl 0)) h1)
          (mulf (broadcast S16 ww) (subf (shapeCast S16 (blk posI x (offr 0)) h2) (shapeCast S16 (blk posI x (offl 0)) h3)))) h4)
        Finset.univ hx hm) >>= k) v R := by
  have ht2 : ∀ t : Fin k0_t2_loop.trips, t.val < 8 := by decide
  have ht3 : ∀ t : Fin k0_t3_loop.trips, t.val < 4 := by decide
  have hc : i % 2 < 2 := Nat.mod_lt _ (by decide)
  have h2 := ht2 t2; have h3 := ht3 t3
  refine Tri.fill_ou ?_ (fun j => ?_) h
  · rw [ho, outOff_eq t2 t3 ⟨i / 2, by omega⟩ ⟨i % 2, hc⟩]
    show 2048 * t2.val + 512 * t3.val + 32 * (i / 2) + 16 * (i % 2) = _
    omega
  · have hj : (j 0).val < 16 := (j 0).isLt
    rw [cast_eq16, cast_eq16, cast_eq16, hol, hor, k0_off4_at t2 _ (hlf _) _ hc, k0_off4_at t2 _ (hrt _) _ hc]
    have e1 : (2048 * t2.val + 512 * t3.val + 16 * i + (j 0).val) / 2048 = t2.val := by omega
    have e2 : (2048 * t2.val + 512 * t3.val + 16 * i + (j 0).val) % 2048 / 32 = 16 * t3.val + i / 2 := by omega
    have e3 : (2048 * t2.val + 512 * t3.val + 16 * i + (j 0).val) % 32 = 16 * (i % 2) + (j 0).val := by omega
    unfold grpVal
    rw [e1, e2, e3, ← hw, ← Nat.add_assoc, ← Nat.add_assoc]
    rfl

end Store

end Cert.KernelIdeal.Hand

end
-- ==== Proof.KernelIdeal.Copies.lean ====
/-
  The copies of the body: the tables every subcore reads whole, and a group's observations in and its result out.
-/
module

public import proofs.«01_k».proof.Proof.KernelIdeal.Base
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Pipeline.Value
public import proofs.«01_k».proof.Proof.Gen.KernelIdeal
public import proofs.«01_k».proof.Proof.KernelIdeal.Search
public import proofs.«01_k».proof.Proof.KernelIdeal.Inner
public import proofs.«01_k».proof.Proof.Gen.KernelIdeal.Skeleton

@[expose] public section

set_option maxRecDepth 16384

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tmH" => (Memref.whole Cert.KernelIdeal.main_arg0_scv : Memref Cert.KernelIdeal.sig Kind.scVector Space.hbm Cert.KernelIdeal.S128 EltTy.f32)
local notation "tqH" => (Memref.whole Cert.KernelIdeal.main_arg2_scv : Memref Cert.KernelIdeal.sig Kind.scVector Space.hbm Cert.KernelIdeal.S64 EltTy.f32)
local notation "xH" => (Memref.whole Cert.KernelIdeal.main_v0_scv : Memref Cert.KernelIdeal.sig Kind.scVector Space.hbm Cert.KernelIdeal.S33554432 EltTy.f32)
local notation "oH" => (Memref.whole Cert.KernelIdeal.main_v1_scv : Memref Cert.KernelIdeal.sig Kind.scVector Space.hbm Cert.KernelIdeal.S16777216 EltTy.f32)
local notation "tmV" => (Memref.whole Cert.KernelIdeal.cc0_scratch0 : Memref Cert.KernelIdeal.sig Kind.scVector Space.vmem Cert.KernelIdeal.S128 EltTy.f32)
local notation "tqV" => (Memref.whole Cert.KernelIdeal.cc0_scratch1 : Memref Cert.KernelIdeal.sig Kind.scVector Space.vmem Cert.KernelIdeal.S64 EltTy.f32)
local notation "lfV" => (Memref.whole Cert.KernelIdeal.cc0_scratch2 : Memref Cert.KernelIdeal.sig Kind.scVector Space.vmem Cert.KernelIdeal.S64 EltTy.i32)
local notation "rtV" => (Memref.whole Cert.KernelIdeal.cc0_scratch3 : Memref Cert.KernelIdeal.sig Kind.scVector Space.vmem Cert.KernelIdeal.S64 EltTy.i32)
local notation "wtV" => (Memref.whole Cert.KernelIdeal.cc0_scratch4 : Memref Cert.KernelIdeal.sig Kind.scVector Space.vmem Cert.KernelIdeal.S64 EltTy.f32)
local notation "inV" => (Memref.whole Cert.KernelIdeal.cc0_scratch5 : Memref Cert.KernelIdeal.sig Kind.scVector Space.vmem Cert.KernelIdeal.S32768 EltTy.f32)
local notation "ouV" => (Memref.whole Cert.KernelIdeal.cc0_scratch6 : Memref Cert.KernelIdeal.sig Kind.scVector Space.vmem Cert.KernelIdeal.S16384 EltTy.f32)

set_option maxHeartbeats 40000000
variable [FloatOps F] {d : Dev nD} {L : grid0.Coords}

/-- The tile's own books: it may wait, and what it owes, with only waits of its own beyond `W`. -/
def Books (d : Dev nD) (L : grid0.Coords) (O : CellTallies nD τ sig (HIx 1)) (W : Waits sig (HIx 1)) : sProp 𝕄 :=
  iprop(Transfers.MayWaits (thr d L) (none : HIx 1) O ∗ ∃ W', ⌜∀ p ∈ W', p ∈ W ∨ p.2 = none⌝ ∗ owes (thr d L) O W')

omit [FloatOps F] in
/-- One wait more leaves the books in order. -/
theorem waits_insert {W W' : Waits sig (HIx 1)} (s : SemLoc sig) (h : ∀ p ∈ W', p ∈ W ∨ p.2 = none) :
    ∀ p ∈ insert (s, (none : HIx 1)) W', p ∈ W ∨ p.2 = none := fun p hp => by
  rcases Finset.mem_insert.mp hp with hp | hp
  · exact .inr (hp ▸ rfl)
  · exact h p hp

variable {O : CellTallies nD τ sig (HIx 1)} {W : Waits sig (HIx 1)} {α : Type}

/-- The two tables as a tile reads them, and the semaphores of their copies. -/
def Tables (d : Dev nD) (L : grid0.Coords) (q1 q2 : PosShare TreeShare) (f : S128.Idx → F .f32) (q : S64.Idx → F .f32) : sProp 𝕄 :=
  iprop(((tmH).view.loc (thr d L) ↦{q1} f) ∗ ((tqH).view.loc (thr d L) ↦{q2} q)
    ∗ semVal (thr d L, SemLoc.dma cc0_scoped0.sem) 0 ∗ semVal (thr d L, SemLoc.dma cc0_scoped1.sem) 0)

/-- What a copy of a whole table lands is the table. -/
theorem landed_tm (f f0 : S128.Idx → F .f32) :
    ((tmV).view.loc (thr d L) ↦{fullShare} View.write (Elt F) (tmV).view f0 ((tmH).view.read (Elt F) f) Finset.univ : sProp 𝕄)
      ⊢ (tmV).view.loc (thr d L) ↦{fullShare} f := by
  simp only [Memref.view_whole, View.write_whole_univ, View.read_whole]; exact .rfl
theorem landed_tq (q q0 : S64.Idx → F .f32) :
    ((tqV).view.loc (thr d L) ↦{fullShare} View.write (Elt F) (tqV).view q0 ((tqH).view.read (Elt F) q) Finset.univ : sProp 𝕄)
      ⊢ (tqV).view.loc (thr d L) ↦{fullShare} q := by
  simp only [Memref.view_whole, View.write_whole_univ, View.read_whole]; exact .rfl

/-- The two copies the task begins with: the grid and the queries come to the scratch. -/
theorem tri_tables {k : PROG (F := F) L α} {v : α} {Z R : sProp 𝕄} {h1 h2 h3 h4 h5 h6 h7 h8 h9 h10} {q1 q2 : PosShare TreeShare}
    {f f0 : S128.Idx → F .f32} {q q0 : S64.Idx → F .f32} {lf rt : S64.Idx → BitVec 32} {wt : S64.Idx → F .f32}
    (h : Tri d L (Srch d L iprop(Books d L O W ∗ Tables d L q1 q2 f q ∗ Z) f q lf rt wt) k v R) :
    Tri d L (Srch d L iprop(Books d L O W ∗ Tables d L q1 q2 f q ∗ Z) f0 q0 lf rt wt)
      (Prog.lift (.enqueueDma tmH (.here tmV) (.dma cc0_scoped0.sem) h1 h2 h3) >>= fun _ =>
       Prog.lift (.waitDma2 cc0_scoped0.sem tmH tmV h4 h5) >>= fun _ =>
       Prog.lift (.enqueueDma tqH (.here tqV) (.dma cc0_scoped1.sem) h6 h7 h8) >>= fun _ =>
       Prog.lift (.waitDma2 cc0_scoped1.sem tqH tqV h9 h10) >>= fun _ => k) v R := by
  intro Q
  have h' := h Q
  unfold Srch Books Tables at h' ⊢
  iintro ⟨⟨⟨⟨Hmw, %W', %hW', HO⟩, ⟨H1, H2, HA, HB⟩, HZ⟩, D1, D2, D3, D4, D5⟩, HQ⟩
  rw [WP]
  sl_exec
  iapply h'
  isplitr [HQ]
  · isplitr [D1 D2 D3 D4 D5]
    · isplitl [Hmw HO]
      · isplitl [Hmw]; · iexact Hmw
        iexists (insert (SemLoc.dma cc0_scoped1.sem, (default : HIx 1)) (insert (SemLoc.dma cc0_scoped0.sem, (default : HIx 1)) W')); isplitr
        · ipureintro; exact waits_insert _ (waits_insert _ hW')
        · iexact HO
      isplitr [HZ]
      · isplitl [H1]; · iexact H1
        isplitl [H2]; · iexact H2
        isplitl [HA]; · iexact HA
        iexact HB
      iexact HZ
    isplitl [D1]; · iapply (landed_tm (d := d) (L := L) f f0); iexact D1
    isplitl [D2]; · iapply (landed_tq (d := d) (L := L) q q0); iexact D2
    isplitl [D3]; · iexact D3
    isplitl [D4] <;> iassumption
  iexact HQ

/-! ## A group's observations in, its result out -/

theorem posX : ∀ a, 0 < S33554432.size a := by decide

/-- The piece of the flat observations that group `t1` of a subcore is, and the piece of the result. -/
abbrev inK (L : grid0.Coords) (t1 : Fin k0_t1_loop.trips) : Memref sig .scVector .hbm S32768 .f32 :=
  (xH).slice (Rect.unit (s := S33554432) (k0_off1 L t1) S32768.size (k0_off1_inb L t1)) fun _ => rfl
abbrev ouK (L : grid0.Coords) (t1 : Fin k0_t1_loop.trips) : Memref sig .scVector .hbm S16384 .f32 :=
  (oH).slice (Rect.unit (s := S16777216) (k0_off67 L t1) S16384.size (k0_off67_inb L t1)) fun _ => rfl

/-- The words of the result that a subcore writes. -/
def reg (d : Dev nD) (L : grid0.Coords) : Finset (Idx ((oH).view.loc (thr d L))) :=
  Finset.univ.filter fun i : S16777216.Idx => 1048576 * (L 1).val + 524288 * (L 0).val ≤ (i 0).val ∧ (i 0).val < 1048576 * (L 1).val + 524288 * (L 0).val + 524288

/-- The `32768` observations' words from `n` on. -/
def grpIn {β : Type} (X : S33554432.Idx → β) (n : ℕ) : S32768.Idx → β := fun i => X (pos posX (n + (i 0).val))

/-- A result whose `16384` words from `n` on are `o`'s. -/
def grpOut {β : Type} (G : S16777216.Idx → β) (n : ℕ) (o : S16384.Idx → β) : S16777216.Idx → β := fun i =>
  if h : n ≤ (i 0).val ∧ (i 0).val < n + 16384 then o fun | 0 => ⟨(i 0).val - n, by show _ < 16384; omega⟩ else G i

omit [FloatOps F] in
theorem reg_slice (L : grid0.Coords) (t1 : Fin k0_t1_loop.trips) : (ouK L t1).view.set ⊆ reg d L := by
  intro i hi
  have ht : ∀ t : Fin k0_t1_loop.trips, t.val < 32 := by decide
  have h := ht t1
  have hm := (Rect.mem_set_unit (s := S16777216)).mp ((View.set_slice_whole main_v1_scv (Rect.unit (s := S16777216) (k0_off67 L t1) S16384.size (k0_off67_inb L t1))) ▸ hi) 0
  rw [k0_off67_eq] at hm
  have h1 : 1048576 * (L 1).val + 524288 * (L 0).val + 16384 * t1.val ≤ (i 0).val ∧ (i 0).val < 1048576 * (L 1).val + 524288 * (L 0).val + 16384 * t1.val + 16384 := hm
  refine Finset.mem_filter.mpr ⟨Finset.mem_univ _, ?_, ?_⟩
  · exact Nat.le_trans (Nat.le_add_right _ _) h1.1
  · show (i 0).val < _
    omega

omit [FloatOps F] in
theorem landed_in (L : grid0.Coords) (t1 : Fin k0_t1_loop.trips) (X : S33554432.Idx → F .f32) (x0 : S32768.Idx → F .f32) :
    ((inV).view.loc (thr d L) ↦{fullShare} View.write (Elt F) (inV).view x0 ((inK L t1).view.read (Elt F) X) Finset.univ : sProp 𝕄)
      ⊢ (inV).view.loc (thr d L) ↦{fullShare} grpIn X (2097152 * (L 1).val + 1048576 * (L 0).val + 32768 * t1.val) := by
  refine Entails.of_eq (congrArg (fun f => ((inV).view.loc (thr d L) ↦{fullShare} f : sProp 𝕄)) ?_)
  simp only [Memref.view_whole, View.write_whole_univ]
  funext i
  refine congrArg X (funext fun a => Fin.ext ?_)
  match a with
  | 0 =>
    have h : k0_off1 L t1 0 + 32768 ≤ 33554432 := k0_off1_inb L t1 0
    have hi : (i 0).val < 32768 := (i 0).isLt
    have e : k0_off1 L t1 0 = 2097152 * (L 1).val + 1048576 * (L 0).val + 32768 * t1.val := by rw [k0_off1_eq]; rfl
    show k0_off1 L t1 0 + 1 * (i 0).val = (2097152 * (L 1).val + 1048576 * (L 0).val + 32768 * t1.val + (i 0).val) % 33554432
    rw [← e, Nat.mod_eq_of_lt (by omega), one_mul]

omit [FloatOps F] in
theorem landed_out (L : grid0.Coords) (t1 : Fin k0_t1_loop.trips) (G : S16777216.Idx → F .f32) (o : S16384.Idx → F .f32) :
    View.write (Elt F) (ouK L t1).view G ((ouV).view.read (Elt F) o) Finset.univ
      = grpOut G (1048576 * (L 1).val + 524288 * (L 0).val + 16384 * t1.val) o := by
  refine (View.write_whole_slice_unit (Val := Elt F) main_v1_scv (k0_off67 L t1) S16384.size (k0_off67_inb L t1) G o).trans ?_
  have e : k0_off67 L t1 0 = 1048576 * (L 1).val + 524288 * (L 0).val + 16384 * t1.val := by rw [k0_off67_eq]; rfl
  rw [← e]
  funext i
  unfold updateSlice grpOut
  by_cases hc : k0_off67 L t1 0 ≤ (i 0).val ∧ (i 0).val < k0_off67 L t1 0 + 16384
  · rw [dif_pos hc, dif_pos (show _ from fun | 0 => hc)]
    refine congrArg o (funext fun a => Fin.ext ?_)
    match a with
    | 0 => rfl
  · rw [dif_neg hc, dif_neg fun hh => hc (hh 0)]

omit [FloatOps F] in
/-- The group's piece as written and the rest of the subcore's words as they were: the subcore's words, with the group's replaced. -/
theorem join_out (L : grid0.Coords) (t1 : Fin k0_t1_loop.trips) (G : S16777216.Idx → F .f32) (o : S16384.Idx → F .f32) :
    iprop(((ouK L t1).view.loc (thr d L) ↦[(ouK L t1).view.set]{fullShare} (ouK L t1).view.writes (Elt F) G [⟨Rect.whole S16384, (ouV).view.read (Elt F) o⟩])
      ∗ ((oH).view.loc (thr d L) ↦[reg d L \ (ouK L t1).view.set]{fullShare} G) : sProp 𝕄)
      ⊢ (oH).view.loc (thr d L) ↦[reg d L]{fullShare} grpOut G (1048576 * (L 1).val + 524288 * (L 0).val + 16384 * t1.val) o := by
  rw [← landed_out (F := F) L t1 G o]
  rw [← View.write_univ_eq_writes_whole, View.writes_nil]
  refine BI.Entails.trans (sep_mono_right (Entails.of_eq (pointsTo_congr fun i hi => ?_))) (pointsTo_split_subset (reg_slice (d := d) L t1)).2
  exact (View.write_of_not_mem (v := (ouK L t1).view) G ((ouV).view.read (Elt F) o) (M := Finset.univ) (fun hm => (Finset.mem_sdiff.mp hi).2 hm)).symm

/-- What the copies of the groups hold: the books, a share of the flat observations, the subcore's words of the result, the
    two semaphores, beside whatever else is held. -/
def Cop (d : Dev nD) (L : grid0.Coords) (O : CellTallies nD τ sig (HIx 1)) (W : Waits sig (HIx 1)) (qx : PosShare TreeShare)
    (X : S33554432.Idx → F .f32) (Z : sProp 𝕄) (G : S16777216.Idx → F .f32) : sProp 𝕄 :=
  iprop(Books d L O W ∗ ((xH).view.loc (thr d L) ↦{qx} X) ∗ ((oH).view.loc (thr d L) ↦[reg d L]{fullShare} G)
    ∗ semVal (thr d L, SemLoc.dma cc0_scoped2.sem) 0 ∗ semVal (thr d L, SemLoc.dma cc0_scoped3.sem) 0 ∗ Z)

/-- A group's observations come to the scratch. -/
theorem tri_in {k : PROG (F := F) L α} {v : α} {Z R : sProp 𝕄} {qx : PosShare TreeShare} {t1 : Fin k0_t1_loop.trips}
    {h1 h2 h3} {h4 : (inK L t1).view.WordExact} {h5}
    {X : S33554432.Idx → F .f32} {G : S16777216.Idx → F .f32} {x0 : S32768.Idx → F .f32} {lf rt : S64.Idx → BitVec 32} {wt : S64.Idx → F .f32}
    {o : S16384.Idx → F .f32}
    (h : Tri d L (Grp d L (Cop d L O W qx X Z G) (grpIn X (2097152 * (L 1).val + 1048576 * (L 0).val + 32768 * t1.val)) lf rt wt o) k v R) :
    Tri d L (Grp d L (Cop d L O W qx X Z G) x0 lf rt wt o)
      (Prog.lift (.enqueueDma (inK L t1) (.here inV) (.dma cc0_scoped2.sem) h1 h2 h3) >>= fun _ =>
       Prog.lift (.waitDma2 cc0_scoped2.sem (inK L t1) inV h4 h5) >>= fun _ => k) v R := by
  intro Q
  have h' := h Q
  unfold Grp Cop Books at h' ⊢
  iintro ⟨⟨⟨⟨Hmw, %W', %hW', HO⟩, HX, HG, HA, HB, HZ⟩, D1, D2, D3, D4, D5⟩, HQ⟩
  rw [WP]
  sl_exec (disch := exact View.amount_pos _ _ (show 0 < S32768.numel by decide))
  iapply h'
  isplitr [HQ]
  · isplitr [D1 D2 D3 D4 D5]
    · isplitl [Hmw HO]
      · isplitl [Hmw]; · iexact Hmw
        iexists (insert (SemLoc.dma cc0_scoped2.sem, (default : HIx 1)) W'); isplitr
        · ipureintro; exact waits_insert _ hW'
        · iexact HO
      isplitl [HX]; · iexact HX
      isplitl [HG]; · iexact HG
      isplitl [HA]; · iexact HA
      isplitl [HB]; · iexact HB
      iexact HZ
    isplitl [D1]; · iapply (landed_in (d := d) L t1 X x0); iexact D1
    isplitl [D2]; · iexact D2
    isplitl [D3]; · iexact D3
    isplitl [D4]; · iexact D4
    iexact D5
  iexact HQ

/-- A group's result goes out. -/
theorem tri_out {k : PROG (F := F) L α} {v : α} {Z R : sProp 𝕄} {qx : PosShare TreeShare} {t1 : Fin k0_t1_loop.trips}
    {h1 h2 h3 h4} {h5 : (ouK L t1).view.WordExact}
    {X : S33554432.Idx → F .f32} {G : S16777216.Idx → F .f32} {x : S32768.Idx → F .f32} {lf rt : S64.Idx → BitVec 32} {wt : S64.Idx → F .f32}
    {o : S16384.Idx → F .f32}
    (h : Tri d L (Grp d L (Cop d L O W qx X Z (grpOut G (1048576 * (L 1).val + 524288 * (L 0).val + 16384 * t1.val) o)) x lf rt wt o) k v R) :
    Tri d L (Grp d L (Cop d L O W qx X Z G) x lf rt wt o)
      (Prog.lift (.enqueueDma ouV (.here (ouK L t1)) (.dma cc0_scoped3.sem) h1 h2 h3) >>= fun _ =>
       Prog.lift (.waitDma2 cc0_scoped3.sem ouV (ouK L t1) h4 h5) >>= fun _ => k) v R := by
  intro Q
  have h' := h Q
  unfold Grp Cop Books at h' ⊢
  iintro ⟨⟨⟨⟨Hmw, %W', %hW', HO⟩, HX, HG, HA, HB, HZ⟩, D1, D2, D3, D4, D5⟩, HQ⟩
  ihave HG' := (pointsTo_split_subset (reg_slice (d := d) L t1)).1 $$ HG
  icases HG' with ⟨HK, HR⟩
  ihave HK' := (Entails.of_eq (show ((oH).view.loc (thr d L) ↦[(ouK L t1).view.set]{fullShare} G : sProp 𝕄)
    = ((ouK L t1).view.loc (thr d L) ↦[(ouK L t1).view.set]{fullShare} G) from rfl)) $$ HK
  rw [WP]
  sl_exec (disch := exact View.amount_pos _ _ (show 0 < S16384.numel by decide))
  iapply h'
  isplitr [HQ]
  · isplitr [D1 D2 D3 D4 D5]
    · isplitl [Hmw HO]
      · isplitl [Hmw]; · iexact Hmw
        iexists (insert (SemLoc.dma cc0_scoped3.sem, (default : HIx 1)) W'); isplitr
        · ipureintro; exact waits_insert _ hW'
        · iexact HO
      isplitl [HX]; · iexact HX
      isplitl [HK' HR]
      · iapply (join_out (d := d) L t1 G o)
        isplitl [HK']; · iexact HK'
        iexact HR
      isplitl [HA]; · iexact HA
      isplitl [HB]; · iexact HB
      iexact HZ
    isplitl [D1]; · iexact D1
    isplitl [D2]; · iexact D2
    isplitl [D3]; · iexact D3
    isplitl [D4]; · iexact D4
    iexact D5
  iexact HQ

end Cert.KernelIdeal.Hand

end
-- ==== Proof.KernelIdeal.Model.lean ====
/-
  The search query by query, the tables it leaves, and the value of every word of the result.
-/
module

public import proofs.«01_k».proof.Proof.KernelIdeal.Base
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Pipeline.Value
public import proofs.«01_k».proof.Proof.Gen.KernelIdeal
public import proofs.«01_k».proof.Proof.KernelIdeal.Search
public import proofs.«01_k».proof.Proof.KernelIdeal.Inner
public import proofs.«01_k».proof.Proof.KernelIdeal.Copies
public import proofs.«01_k».proof.Proof.Gen.KernelIdeal.Skeleton

@[expose] public section

set_option maxRecDepth 16384

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tmH" => (Memref.whole Cert.KernelIdeal.main_arg0_scv : Memref Cert.KernelIdeal.sig Kind.scVector Space.hbm Cert.KernelIdeal.S128 EltTy.f32)
local notation "tqH" => (Memref.whole Cert.KernelIdeal.main_arg2_scv : Memref Cert.KernelIdeal.sig Kind.scVector Space.hbm Cert.KernelIdeal.S64 EltTy.f32)
local notation "xH" => (Memref.whole Cert.KernelIdeal.main_v0_scv : Memref Cert.KernelIdeal.sig Kind.scVector Space.hbm Cert.KernelIdeal.S33554432 EltTy.f32)
local notation "oH" => (Memref.whole Cert.KernelIdeal.main_v1_scv : Memref Cert.KernelIdeal.sig Kind.scVector Space.hbm Cert.KernelIdeal.S16777216 EltTy.f32)
local notation "tmV" => (Memref.whole Cert.KernelIdeal.cc0_scratch0 : Memref Cert.KernelIdeal.sig Kind.scVector Space.vmem Cert.KernelIdeal.S128 EltTy.f32)
local notation "tqV" => (Memref.whole Cert.KernelIdeal.cc0_scratch1 : Memref Cert.KernelIdeal.sig Kind.scVector Space.vmem Cert.KernelIdeal.S64 EltTy.f32)
local notation "lfV" => (Memref.whole Cert.KernelIdeal.cc0_scratch2 : Memref Cert.KernelIdeal.sig Kind.scVector Space.vmem Cert.KernelIdeal.S64 EltTy.i32)
local notation "rtV" => (Memref.whole Cert.KernelIdeal.cc0_scratch3 : Memref Cert.KernelIdeal.sig Kind.scVector Space.vmem Cert.KernelIdeal.S64 EltTy.i32)
local notation "wtV" => (Memref.whole Cert.KernelIdeal.cc0_scratch4 : Memref Cert.KernelIdeal.sig Kind.scVector Space.vmem Cert.KernelIdeal.S64 EltTy.f32)
local notation "inV" => (Memref.whole Cert.KernelIdeal.cc0_scratch5 : Memref Cert.KernelIdeal.sig Kind.scVector Space.vmem Cert.KernelIdeal.S32768 EltTy.f32)
local notation "ouV" => (Memref.whole Cert.KernelIdeal.cc0_scratch6 : Memref Cert.KernelIdeal.sig Kind.scVector Space.vmem Cert.KernelIdeal.S16384 EltTy.f32)

variable [FloatOps F]

/-! ## The search, query by query -/

/-- How many of the first `n` grid points lie below `a`. -/
def cntN (f : S128.Idx → F .f32) (a : F .f32) : ℕ → ℕ
  | 0 => 0
  | n + 1 => cntN f a n + if FloatOps.cmpf .olt (tAt f n) a = 1 then 1 else 0

/-- The right neighbour, the left one, whether the left one is the query and has a neighbour to its left, and the left
    neighbour corrected. -/
def rN (f : S128.Idx → F .f32) (a : F .f32) : ℕ := min (cntN f a 128) 127
def lN (f : S128.Idx → F .f32) (a : F .f32) : ℕ := rN f a - 1
def onN (f : S128.Idx → F .f32) (a : F .f32) : Prop := FloatOps.cmpf .oeq (tAt f (lN f a)) a = 1 ∧ 0 < lN f a
instance (f : S128.Idx → F .f32) (a : F .f32) : Decidable (onN f a) := by unfold onN; infer_instance
def mN (f : S128.Idx → F .f32) (a : F .f32) : ℕ := if onN f a then lN f a - 1 else lN f a

/-- The distance of the two neighbours, and the weight of the right one. -/
def dstN (f : S128.Idx → F .f32) (a : F .f32) : F .f32 := FloatOps.subf (tAt f (rN f a)) (tAt f (mN f a))
def wgtN (f : S128.Idx → F .f32) (a : F .f32) : F .f32 :=
  FloatOps.divf (FloatOps.subf a (tAt f (mN f a)))
    (if FloatOps.cmpf .oeq (dstN f a) (Scalar.ofBits .f32 0x00000000#32) = 1 then Scalar.ofBits .f32 0x358637BD#32 else dstN f a)

theorem cntN_le (f : S128.Idx → F .f32) (a : F .f32) (n : ℕ) : cntN f a n ≤ n := by
  induction n with
  | zero => exact Nat.le_refl _
  | succ n ih => unfold cntN; split <;> omega

theorem rN_le (f : S128.Idx → F .f32) (a : F .f32) : rN f a ≤ 127 := Nat.min_le_right _ _
theorem lN_le (f : S128.Idx → F .f32) (a : F .f32) : lN f a ≤ 126 := by unfold lN; have := rN_le f a; omega
theorem mN_le (f : S128.Idx → F .f32) (a : F .f32) : mN f a ≤ 126 := by unfold mN; have := lN_le f a; split <;> omega

/-! ## The vectors' lanes -/

theorem cntV_at (f : S128.Idx → F .f32) (u : FVec F S16 .f32) (j : S16.Idx) (n : ℕ) : cntV f u n j = BitVec.ofNat 32 (cntN f (u j) n) := by
  induction n with
  | zero => rfl
  | succ n ih =>
    show cntV f u n j + Scalar.select (FloatOps.cmpf .olt (tAt f n) (u j)) 1#32 0#32 = BitVec.ofNat 32 (cntN f (u j) n + _)
    rw [ih, BitVec.ofNat_add]
    congr 1
    unfold Scalar.select
    split <;> rfl

theorem selV_at (f : S128.Idx → F .f32) (k : IVec S16 32) (j : S16.Idx) (m : ℕ) (hm : m < 128) (hk : k j = BitVec.ofNat 32 m) (n : ℕ) (hn : n ≤ 128) :
    selV f k n j = if m < n then tAt f m else Scalar.ofBits .f32 0x00000000#32 := by
  induction n with
  | zero => rfl
  | succ n ih =>
    show Scalar.select (IntOp.cmpi .eq (k j) (BitVec.ofNat 32 n)) (tAt f n) (selV f k n j) = _
    rw [ih (by omega), hk]
    unfold Scalar.select IntOp.cmpi
    by_cases h : m = n
    · subst h
      rw [if_pos (by simp), if_pos (by omega)]
    · have hne : ¬ (BitVec.ofNat 32 m == BitVec.ofNat 32 n) = true := by
        intro h2
        have h3 := congrArg BitVec.toNat (eq_of_beq h2)
        rw [BitVec.toNat_ofNat, BitVec.toNat_ofNat] at h3
        omega
      rw [if_neg (by simp only [hne]; decide)]
      by_cases h4 : m < n
      · rw [if_pos h4, if_pos (by omega)]
      · rw [if_neg h4, if_neg (by omega)]

theorem selV_eq (f : S128.Idx → F .f32) (k : IVec S16 32) (j : S16.Idx) (m : ℕ) (hm : m < 128) (hk : k j = BitVec.ofNat 32 m) :
    selV f k 128 j = tAt f m := by
  rw [selV_at f k j m hm hk 128 (Nat.le_refl _), if_pos hm]

theorem minsi_small (c : ℕ) (hc : c ≤ 128) : IntOp.minsi (BitVec.ofNat 32 c) 127#32 = BitVec.ofNat 32 (min c 127) := by
  have h : ∀ c : Fin 129, IntOp.minsi (BitVec.ofNat 32 c.val) 127#32 = BitVec.ofNat 32 (min c.val 127) := by decide
  exact h ⟨c, by omega⟩

theorem maxsi_small (c : ℕ) (hc : c ≤ 127) : IntOp.maxsi (BitVec.ofNat 32 c - 1#32) 0#32 = BitVec.ofNat 32 (c - 1) := by
  have h : ∀ c : Fin 128, IntOp.maxsi (BitVec.ofNat 32 c.val - 1#32) 0#32 = BitVec.ofNat 32 (c.val - 1) := by decide
  exact h ⟨c, by omega⟩

theorem sgt_small (c : ℕ) (hc : c ≤ 127) : IntOp.cmpi .sgt (BitVec.ofNat 32 c) 0#32 = BitVec.ofBool (decide (0 < c)) := by
  have h : ∀ c : Fin 128, IntOp.cmpi .sgt (BitVec.ofNat 32 c.val) 0#32 = BitVec.ofBool (decide (0 < c.val)) := by decide
  exact h ⟨c, by omega⟩

theorem rightV_at (f : S128.Idx → F .f32) (u : FVec F S16 .f32) (j : S16.Idx) : rightV f u j = BitVec.ofNat 32 (rN f (u j)) := by
  show IntOp.minsi (cntV f u 128 j) 127#32 = _
  rw [cntV_at]; exact minsi_small _ (cntN_le f (u j) 128)

theorem leftV_at (f : S128.Idx → F .f32) (u : FVec F S16 .f32) (j : S16.Idx) : leftV f u j = BitVec.ofNat 32 (lN f (u j)) := by
  show IntOp.maxsi (rightV f u j - 1#32) 0#32 = _
  rw [rightV_at]; exact maxsi_small _ (rN_le f (u j))

theorem left2V_at (f : S128.Idx → F .f32) (u : FVec F S16 .f32) (j : S16.Idx) (h : 0 < lN f (u j)) :
    left2V f u j = BitVec.ofNat 32 (lN f (u j) - 1) := by
  show leftV f u j - 1#32 = _
  rw [leftV_at]
  have hc := lN_le f (u j)
  have e : ∀ c : Fin 127, 0 < c.val → BitVec.ofNat 32 c.val - 1#32 = BitVec.ofNat 32 (c.val - 1) := by decide
  exact e ⟨lN f (u j), by omega⟩ h

theorem and_ofBool (a : BitVec 1) (b : Bool) : IntOp.andi a (BitVec.ofBool b) = 1 ↔ a = 1 ∧ b = true := by
  revert a b; decide

theorem gridV_at (f : S128.Idx → F .f32) (u : FVec F S16 .f32) (j : S16.Idx) : gridV f u j = 1 ↔ onN f (u j) := by
  show IntOp.andi (FloatOps.cmpf .oeq (selV f (leftV f u) 128 j) (u j)) (IntOp.cmpi .sgt (leftV f u j) 0#32) = 1 ↔ _
  have hc := lN_le f (u j)
  rw [selV_eq f _ j (lN f (u j)) (by omega) (leftV_at f u j), leftV_at, sgt_small _ (by omega), and_ofBool, decide_eq_true_iff]
  exact Iff.rfl

theorem pickV_at (f : S128.Idx → F .f32) (u : FVec F S16 .f32) (j : S16.Idx) :
    select (gridV f u) (left2V f u) (leftV f u) j = BitVec.ofNat 32 (mN f (u j)) := by
  show Scalar.select (gridV f u j) (left2V f u j) (leftV f u j) = _
  unfold Scalar.select mN
  by_cases h : onN f (u j)
  · rw [if_pos ((gridV_at f u j).mpr h), if_pos h, left2V_at f u j h.2]
  · rw [if_neg (fun h' => h ((gridV_at f u j).mp h')), if_neg h, leftV_at]

theorem tlV_at (f : S128.Idx → F .f32) (u : FVec F S16 .f32) (j : S16.Idx) : tlV f u j = tAt f (mN f (u j)) := by
  show Scalar.select (gridV f u j) (selV f (left2V f u) 128 j) (selV f (leftV f u) 128 j) = _
  have hc := lN_le f (u j)
  unfold Scalar.select mN
  by_cases h : onN f (u j)
  · rw [if_pos ((gridV_at f u j).mpr h), if_pos h]
    exact selV_eq f _ j _ (by omega) (left2V_at f u j h.2)
  · rw [if_neg (fun h' => h ((gridV_at f u j).mp h')), if_neg h]
    exact selV_eq f _ j _ (by omega) (leftV_at f u j)

theorem tdV_at (f : S128.Idx → F .f32) (u : FVec F S16 .f32) (j : S16.Idx) : tdV f u j = dstN f (u j) := by
  show FloatOps.subf (selV f (rightV f u) 128 j) (tlV f u j) = _
  have hc := rN_le f (u j)
  rw [selV_eq f _ j (rN f (u j)) (by omega) (rightV_at f u j), tlV_at]
  rfl

theorem wgV_at (f : S128.Idx → F .f32) (u : FVec F S16 .f32) (j : S16.Idx) : wgV f u j = wgtN f (u j) := by
  show FloatOps.divf (FloatOps.subf (u j) (tlV f u j)) (Scalar.select (FloatOps.cmpf .oeq (tdV f u j) _) _ (tdV f u j)) = _
  rw [tdV_at, tlV_at]
  rfl

theorem lwV_at (f : S128.Idx → F .f32) (u : FVec F S16 .f32) (j : S16.Idx) : lwV f u j = BitVec.ofNat 32 (32 * mN f (u j)) := by
  show select (gridV f u) (left2V f u) (leftV f u) j * 32#32 = _
  rw [pickV_at, Nat.mul_comm, BitVec.ofNat_mul]

theorem rwV_at (f : S128.Idx → F .f32) (u : FVec F S16 .f32) (j : S16.Idx) : rwV f u j = BitVec.ofNat 32 (32 * rN f (u j)) := by
  show rightV f u j * 32#32 = _
  rw [rightV_at, Nat.mul_comm, BitVec.ofNat_mul]

/-! ## The tables the search leaves -/

def lfT (f : S128.Idx → F .f32) (q : S64.Idx → F .f32) : S64.Idx → BitVec 32 := fun i => BitVec.ofNat 32 (32 * mN f (q i))
def rtT (f : S128.Idx → F .f32) (q : S64.Idx → F .f32) : S64.Idx → BitVec 32 := fun i => BitVec.ofNat 32 (32 * rN f (q i))
def wtT (f : S128.Idx → F .f32) (q : S64.Idx → F .f32) : S64.Idx → F .f32 := fun i => wgtN f (q i)

theorem lfT_toNat (f : S128.Idx → F .f32) (q : S64.Idx → F .f32) (i : S64.Idx) : (lfT f q i).toNat = 32 * mN f (q i) := by
  have := mN_le f (q i)
  unfold lfT; rw [BitVec.toNat_ofNat, Nat.mod_eq_of_lt (by omega)]
theorem rtT_toNat (f : S128.Idx → F .f32) (q : S64.Idx → F .f32) (i : S64.Idx) : (rtT f q i).toNat = 32 * rN f (q i) := by
  have := rN_le f (q i)
  unfold rtT; rw [BitVec.toNat_ofNat, Nat.mod_eq_of_lt (by omega)]
theorem lfT_le (f : S128.Idx → F .f32) (q : S64.Idx → F .f32) (i : S64.Idx) : (lfT f q i).toNat ≤ 4064 := by
  have := mN_le f (q i); rw [lfT_toNat]; omega
theorem rtT_le (f : S128.Idx → F .f32) (q : S64.Idx → F .f32) (i : S64.Idx) : (rtT f q i).toNat ≤ 4064 := by
  have := rN_le f (q i); rw [rtT_toNat]; omega

omit [FloatOps F] in
/-- A table of sixty-four filled sixteen at a time from the queries. -/
theorem setBlk_four {β : Type} (q : S64.Idx → F .f32) (g : FVec F S16 .f32 → S16.Idx → β) (h : F .f32 → β) (hg : ∀ u j, g u j = h (u j))
    (o : S64.Idx → β) :
    setBlk (N := 64) (setBlk (N := 64) (setBlk (N := 64) (setBlk (N := 64) o 0 (g (blk pos64 q 0))) 16 (g (blk pos64 q 16))) 32 (g (blk pos64 q 32)))
      48 (g (blk pos64 q 48)) = fun i => h (q i) := by
  funext i
  have hi : (i 0).val < 64 := (i 0).isLt
  have key : ∀ n (hn : n ≤ (i 0).val ∧ (i 0).val < n + 16) (p : (i 0).val - n < S16.size 0),
      g (blk pos64 q n) (fun | 0 => ⟨(i 0).val - n, p⟩) = h (q i) := by
    intro n hn p
    rw [hg]
    unfold blk
    refine congrArg (fun i => h (q i)) (funext fun a => Fin.ext ?_)
    match a with
    | 0 =>
      show (n + ((i 0).val - n)) % 64 = (i 0).val
      omega
  unfold setBlk
  by_cases h3 : 48 ≤ (i 0).val ∧ (i 0).val < 48 + 16
  · rw [dif_pos h3]; exact key 48 h3 _
  rw [dif_neg h3]
  by_cases h2 : 32 ≤ (i 0).val ∧ (i 0).val < 32 + 16
  · rw [dif_pos h2]; exact key 32 h2 _
  rw [dif_neg h2]
  by_cases h1 : 16 ≤ (i 0).val ∧ (i 0).val < 16 + 16
  · rw [dif_pos h1]; exact key 16 h1 _
  rw [dif_neg h1]
  have h0 : 0 ≤ (i 0).val ∧ (i 0).val < 0 + 16 := by omega
  rw [dif_pos h0]; exact key 0 h0 _

/-! ## The result -/

/-- Word `p` of the whole flat result: observation `p / 2048`, query `p % 2048 / 32`, channel `p % 32`. -/
def resV (f : S128.Idx → F .f32) (q : S64.Idx → F .f32) (X : S33554432.Idx → F .f32) (p : ℕ) : F .f32 :=
  FloatOps.addf (X (pos posX (4096 * (p / 2048) + 32 * mN f (q (pos pos64 (p % 2048 / 32))) + p % 32)))
    (FloatOps.mulf (wgtN f (q (pos pos64 (p % 2048 / 32))))
      (FloatOps.subf (X (pos posX (4096 * (p / 2048) + 32 * rN f (q (pos pos64 (p % 2048 / 32))) + p % 32)))
        (X (pos posX (4096 * (p / 2048) + 32 * mN f (q (pos pos64 (p % 2048 / 32))) + p % 32)))))

/-- A group's words are the whole result's. -/
theorem grpVal_eq (f : S128.Idx → F .f32) (q : S64.Idx → F .f32) (X : S33554432.Idx → F .f32) (n p : ℕ) (hp : p < 16384) (hn : n < 1024) :
    grpVal (grpIn X (32768 * n)) (lfT f q) (rtT f q) (wtT f q) p = resV f q X (16384 * n + p) := by
  have e1 : (16384 * n + p) / 2048 = 8 * n + p / 2048 := by omega
  have e2 : (16384 * n + p) % 2048 = p % 2048 := by omega
  have e3 : (16384 * n + p) % 32 = p % 32 := by omega
  have key : ∀ r, r ≤ 4064 → grpIn X (32768 * n) (pos posI (4096 * (p / 2048) + r + p % 32)) = X (pos posX (4096 * (8 * n + p / 2048) + r + p % 32)) := by
    intro r hr
    unfold grpIn
    refine congrArg X (funext fun a => Fin.ext ?_)
    match a with
    | 0 =>
      show (32768 * n + (4096 * (p / 2048) + r + p % 32) % 32768) % 33554432 = (4096 * (8 * n + p / 2048) + r + p % 32) % 33554432
      have : p / 2048 < 8 := by omega
      have : p % 32 < 32 := Nat.mod_lt _ (by decide)
      rw [Nat.mod_eq_of_lt (a := 4096 * (p / 2048) + r + p % 32) (by omega)]
      congr 1; omega
  unfold grpVal resV
  rw [e1, e2, e3, key _ (lfT_le f q _), key _ (rtT_le f q _), lfT_toNat, rtT_toNat]
  rfl

end Cert.KernelIdeal.Hand

end
-- ==== Proof.KernelIdeal.Row.lean ====
/-
  One trip of the innermost loop: thirty-two stores, each the next sixteen words of the result.
-/
module

public import proofs.«01_k».proof.Proof.KernelIdeal.Base
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Pipeline.Value
public import proofs.«01_k».proof.Proof.Gen.KernelIdeal
public import proofs.«01_k».proof.Proof.KernelIdeal.Search
public import proofs.«01_k».proof.Proof.KernelIdeal.Inner
public import proofs.«01_k».proof.Proof.Gen.KernelIdeal.Skeleton

@[expose] public section

set_option maxRecDepth 16384

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tmH" => (Memref.whole Cert.KernelIdeal.main_arg0_scv : Memref Cert.KernelIdeal.sig Kind.scVector Space.hbm Cert.KernelIdeal.S128 EltTy.f32)
local notation "tqH" => (Memref.whole Cert.KernelIdeal.main_arg2_scv : Memref Cert.KernelIdeal.sig Kind.scVector Space.hbm Cert.KernelIdeal.S64 EltTy.f32)
local notation "xH" => (Memref.whole Cert.KernelIdeal.main_v0_scv : Memref Cert.KernelIdeal.sig Kind.scVector Space.hbm Cert.KernelIdeal.S33554432 EltTy.f32)
local notation "oH" => (Memref.whole Cert.KernelIdeal.main_v1_scv : Memref Cert.KernelIdeal.sig Kind.scVector Space.hbm Cert.KernelIdeal.S16777216 EltTy.f32)
local notation "tmV" => (Memref.whole Cert.KernelIdeal.cc0_scratch0 : Memref Cert.KernelIdeal.sig Kind.scVector Space.vmem Cert.KernelIdeal.S128 EltTy.f32)
local notation "tqV" => (Memref.whole Cert.KernelIdeal.cc0_scratch1 : Memref Cert.KernelIdeal.sig Kind.scVector Space.vmem Cert.KernelIdeal.S64 EltTy.f32)
local notation "lfV" => (Memref.whole Cert.KernelIdeal.cc0_scratch2 : Memref Cert.KernelIdeal.sig Kind.scVector Space.vmem Cert.KernelIdeal.S64 EltTy.i32)
local notation "rtV" => (Memref.whole Cert.KernelIdeal.cc0_scratch3 : Memref Cert.KernelIdeal.sig Kind.scVector Space.vmem Cert.KernelIdeal.S64 EltTy.i32)
local notation "wtV" => (Memref.whole Cert.KernelIdeal.cc0_scratch4 : Memref Cert.KernelIdeal.sig Kind.scVector Space.vmem Cert.KernelIdeal.S64 EltTy.f32)
local notation "inV" => (Memref.whole Cert.KernelIdeal.cc0_scratch5 : Memref Cert.KernelIdeal.sig Kind.scVector Space.vmem Cert.KernelIdeal.S32768 EltTy.f32)
local notation "ouV" => (Memref.whole Cert.KernelIdeal.cc0_scratch6 : Memref Cert.KernelIdeal.sig Kind.scVector Space.vmem Cert.KernelIdeal.S16384 EltTy.f32)

variable [FloatOps F] {d : Dev nD} {L : grid0.Coords}

set_option maxHeartbeats 4000000 in
/-- One trip of the innermost loop: the rows of sixteen queries of one observation. -/
theorem tri_part15 {Z : sProp 𝕄} {x : S32768.Idx → F .f32} {lf rt : S64.Idx → BitVec 32} {wt : S64.Idx → F .f32} {o : S16384.Idx → F .f32}
    (hlf : ∀ i, (lf i).toNat ≤ 4064) (hrt : ∀ i, (rt i).toNat ≤ 4064) (t2 : Fin k0_t2_loop.trips) (t3 : Fin k0_t3_loop.trips) :
    Tri d L (Grp d L Z x lf rt wt (upTo (grpVal x lf rt wt) o (2048 * t2.val + 512 * t3.val + 16 * 0)))
      (k0_part15 L tmH (Memref.isWhole_whole _) tqH (Memref.isWhole_whole _) xH (Memref.isWhole_whole _) oH (Memref.isWhole_whole _)
        tmV (Memref.isWhole_whole _) tqV (Memref.isWhole_whole _) lfV (Memref.isWhole_whole _) rtV (Memref.isWhole_whole _)
        wtV (Memref.isWhole_whole _) inV (Memref.isWhole_whole _) ouV (Memref.isWhole_whole _) cc0_scoped0 cc0_scoped1 cc0_scoped2 cc0_scoped3
        t2 (Scalar.muli (Scf.iv 0#32 1#32 t2) 4096#32) (Scalar.muli (Scf.iv 0#32 1#32 t2) 2048#32) 0#32 1#32 t3) 0#32
      (Grp d L Z x lf rt wt (upTo (grpVal x lf rt wt) o (2048 * t2.val + 512 * (t3.val + 1) + 16 * 0))) := by
  refine Tri.cast rfl (congrArg (fun n => Grp d L Z x lf rt wt (upTo (grpVal x lf rt wt) o n)) (show _ = 2048 * t2.val + 512 * t3.val + 16 * (0 + 1 + 1 + 1 + 1 + 1 + 1 + 1 + 1 + 1 + 1 + 1 + 1 + 1 + 1 + 1 + 1 + 1 + 1 + 1 + 1 + 1 + 1 + 1 + 1 + 1 + 1 + 1 + 1 + 1 + 1 + 1 + 1 ) by omega)) ?_
  unfold k0_part15
  iterate 14 (
    with_reducible refine Tri.bind (F := F) (v := ?_) (R := ?_) ?_ ?_
    on_goal 3 =>
      dsimp -proj only [k0_part1, k0_part2, k0_part3, k0_part4, k0_part5, k0_part6, k0_part7, k0_part8, k0_part9, k0_part10, k0_part11, k0_part12, k0_part13, k0_part14]
      repeat (
        first
          | with_reducible refine Tri.read_in (F := F) ?_
          | with_reducible refine Tri.read_ou (F := F) ?_
          | with_reducible refine Tri.read_lf (F := F) ?_
          | with_reducible refine Tri.read_rt (F := F) ?_
          | with_reducible refine Tri.read_wt (F := F) ?_
          | (with_reducible refine Tri.fill_lane (F := F) hlf hrt ?_ ?_ ?_ ?_ ?_ ?_
             · decide
             · exact lane_at rfl
             · rfl
             · exact off_at (lane_at rfl)
             · exact off_at (lane_at rfl))
          | (with_reducible refine Tri.assume (F := F) ?_ ?_
             · first
                 | exact ⟨k0_off4_ok _ _ (lane_le hlf) 0, k0_off4_ok _ _ (lane_le hlf) 1⟩
                 | exact fun r => k0_off4_ok _ _ (lane_le hrt) r))
      with_reducible refine Tri.ret (F := F) ?_
      exact rfl)
  repeat (
        first
          | with_reducible refine Tri.read_in (F := F) ?_
          | with_reducible refine Tri.read_ou (F := F) ?_
          | with_reducible refine Tri.read_lf (F := F) ?_
          | with_reducible refine Tri.read_rt (F := F) ?_
          | with_reducible refine Tri.read_wt (F := F) ?_
          | (with_reducible refine Tri.fill_lane (F := F) hlf hrt ?_ ?_ ?_ ?_ ?_ ?_
             · decide
             · exact lane_at rfl
             · rfl
             · exact off_at (lane_at rfl)
             · exact off_at (lane_at rfl))
          | (with_reducible refine Tri.assume (F := F) ?_ ?_
             · first
                 | exact ⟨k0_off4_ok _ _ (lane_le hlf) 0, k0_off4_ok _ _ (lane_le hlf) 1⟩
                 | exact fun r => k0_off4_ok _ _ (lane_le hrt) r))
  exact Tri.ret (F := F) rfl

end Cert.KernelIdeal.Hand

end
-- ==== Proof.KernelIdeal.Body.lean ====
/-
  The task of a subcore, whole: the search's parts one after another, then the loops by what is held before each trip.
-/
module

public import proofs.«01_k».proof.Proof.KernelIdeal.Base
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Pipeline.Value
public import proofs.«01_k».proof.Proof.Gen.KernelIdeal
public import proofs.«01_k».proof.Proof.KernelIdeal.Search
public import proofs.«01_k».proof.Proof.KernelIdeal.Inner
public import proofs.«01_k».proof.Proof.KernelIdeal.Copies
public import proofs.«01_k».proof.Proof.KernelIdeal.Model
public import proofs.«01_k».proof.Proof.KernelIdeal.Row
public import proofs.«01_k».proof.Proof.Gen.KernelIdeal.Skeleton

@[expose] public section

set_option maxRecDepth 16384

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tmH" => (Memref.whole Cert.KernelIdeal.main_arg0_scv : Memref Cert.KernelIdeal.sig Kind.scVector Space.hbm Cert.KernelIdeal.S128 EltTy.f32)
local notation "tqH" => (Memref.whole Cert.KernelIdeal.main_arg2_scv : Memref Cert.KernelIdeal.sig Kind.scVector Space.hbm Cert.KernelIdeal.S64 EltTy.f32)
local notation "xH" => (Memref.whole Cert.KernelIdeal.main_v0_scv : Memref Cert.KernelIdeal.sig Kind.scVector Space.hbm Cert.KernelIdeal.S33554432 EltTy.f32)
local notation "oH" => (Memref.whole Cert.KernelIdeal.main_v1_scv : Memref Cert.KernelIdeal.sig Kind.scVector Space.hbm Cert.KernelIdeal.S16777216 EltTy.f32)
local notation "tmV" => (Memref.whole Cert.KernelIdeal.cc0_scratch0 : Memref Cert.KernelIdeal.sig Kind.scVector Space.vmem Cert.KernelIdeal.S128 EltTy.f32)
local notation "tqV" => (Memref.whole Cert.KernelIdeal.cc0_scratch1 : Memref Cert.KernelIdeal.sig Kind.scVector Space.vmem Cert.KernelIdeal.S64 EltTy.f32)
local notation "lfV" => (Memref.whole Cert.KernelIdeal.cc0_scratch2 : Memref Cert.KernelIdeal.sig Kind.scVector Space.vmem Cert.KernelIdeal.S64 EltTy.i32)
local notation "rtV" => (Memref.whole Cert.KernelIdeal.cc0_scratch3 : Memref Cert.KernelIdeal.sig Kind.scVector Space.vmem Cert.KernelIdeal.S64 EltTy.i32)
local notation "wtV" => (Memref.whole Cert.KernelIdeal.cc0_scratch4 : Memref Cert.KernelIdeal.sig Kind.scVector Space.vmem Cert.KernelIdeal.S64 EltTy.f32)
local notation "inV" => (Memref.whole Cert.KernelIdeal.cc0_scratch5 : Memref Cert.KernelIdeal.sig Kind.scVector Space.vmem Cert.KernelIdeal.S32768 EltTy.f32)
local notation "ouV" => (Memref.whole Cert.KernelIdeal.cc0_scratch6 : Memref Cert.KernelIdeal.sig Kind.scVector Space.vmem Cert.KernelIdeal.S16384 EltTy.f32)

variable [FloatOps F] {d : Dev nD} {L : grid0.Coords} {O : CellTallies nD τ sig (HIx 1)} {W : Waits sig (HIx 1)} {α : Type}

/-! ## The groups -/

theorem Tri.pre {P P' R : sProp 𝕄} {p : PROG (F := F) L α} {v : α} (hP : P ⊢ P') (h : Tri d L P' p v R) : Tri d L P p v R := by
  intro Q
  exact (sep_mono_left hP).trans (h Q)

/-- The result before group `n` of a subcore: its earlier groups' words in place. -/
def upG (L : grid0.Coords) (r : ℕ → F .f32) (G : S16777216.Idx → F .f32) (n : ℕ) : S16777216.Idx → F .f32 := fun i =>
  if 1048576 * (L 1).val + 524288 * (L 0).val ≤ (i 0).val ∧ (i 0).val < 1048576 * (L 1).val + 524288 * (L 0).val + 16384 * n then r (i 0).val else G i

/-- The scratch before group `n`: the observations and the result of the group before. -/
def xAt (L : grid0.Coords) (X : S33554432.Idx → F .f32) (x : S32768.Idx → F .f32) : ℕ → S32768.Idx → F .f32
  | 0 => x
  | n + 1 => grpIn X (2097152 * (L 1).val + 1048576 * (L 0).val + 32768 * n)
def oAt (L : grid0.Coords) (f : S128.Idx → F .f32) (q : S64.Idx → F .f32) (X : S33554432.Idx → F .f32) (o : S16384.Idx → F .f32) : ℕ → S16384.Idx → F .f32
  | 0 => o
  | n + 1 => fun i => resV f q X (1048576 * (L 1).val + 524288 * (L 0).val + 16384 * n + (i 0).val)

theorem upTo_zero (g : ℕ → F .f32) (o : S16384.Idx → F .f32) : upTo g o 0 = o := by
  funext i; unfold upTo; rw [if_neg (by omega)]

/-- A group's result when all its words are in place. -/
theorem upTo_full (f : S128.Idx → F .f32) (q : S64.Idx → F .f32) (X : S33554432.Idx → F .f32) (n : ℕ) (hn : n < 32) (o o' : S16384.Idx → F .f32) :
    upTo (grpVal (grpIn X (2097152 * (L 1).val + 1048576 * (L 0).val + 32768 * n)) (lfT f q) (rtT f q) (wtT f q)) o 16384
      = oAt L f q X o' (n + 1) := by
  funext i
  have hi : (i 0).val < 16384 := (i 0).isLt
  have h0 : (L 0).val < 2 := (L 0).isLt
  have h1 : (L 1).val < 16 := (L 1).isLt
  unfold upTo oAt
  rw [if_pos hi, show 2097152 * (L 1).val + 1048576 * (L 0).val + 32768 * n = 32768 * (64 * (L 1).val + 32 * (L 0).val + n) by omega,
    grpVal_eq f q X _ _ hi (by omega)]
  congr 1; omega

/-- The next group's words put in place. -/
theorem upG_succ (f : S128.Idx → F .f32) (q : S64.Idx → F .f32) (X : S33554432.Idx → F .f32) (G : S16777216.Idx → F .f32) (n : ℕ)
    (o : S16384.Idx → F .f32) :
    grpOut (upG L (resV f q X) G n) (1048576 * (L 1).val + 524288 * (L 0).val + 16384 * n) (oAt L f q X o (n + 1)) = upG L (resV f q X) G (n + 1) := by
  funext i
  unfold grpOut upG oAt
  by_cases h : 1048576 * (L 1).val + 524288 * (L 0).val + 16384 * n ≤ (i 0).val ∧ (i 0).val < 1048576 * (L 1).val + 524288 * (L 0).val + 16384 * n + 16384
  · rw [dif_pos h, if_pos (by omega)]
    refine congrArg (resV f q X) ?_
    show 1048576 * (L 1).val + 524288 * (L 0).val + 16384 * n + ((i 0).val - (1048576 * (L 1).val + 524288 * (L 0).val + 16384 * n)) = _
    omega
  · rw [dif_neg h]
    by_cases h2 : 1048576 * (L 1).val + 524288 * (L 0).val ≤ (i 0).val ∧ (i 0).val < 1048576 * (L 1).val + 524288 * (L 0).val + 16384 * n
    · rw [if_pos h2, if_pos (by omega)]
    · rw [if_neg h2, if_neg (by omega)]

/-- What a subcore holds before its task, beside its tables: the observations, its words of the result, the scratch of a
    group, the semaphores of the groups' copies. -/
def Hold (d : Dev nD) (L : grid0.Coords) (qx : PosShare TreeShare) (X : S33554432.Idx → F .f32) (G : S16777216.Idx → F .f32)
    (x : S32768.Idx → F .f32) (o : S16384.Idx → F .f32) : sProp 𝕄 :=
  iprop(((xH).view.loc (thr d L) ↦{qx} X) ∗ ((oH).view.loc (thr d L) ↦[reg d L]{fullShare} G)
    ∗ semVal (thr d L, SemLoc.dma cc0_scoped2.sem) 0 ∗ semVal (thr d L, SemLoc.dma cc0_scoped3.sem) 0
    ∗ ((inV).view.loc (thr d L) ↦{fullShare} x) ∗ ((ouV).view.loc (thr d L) ↦{fullShare} o))

/-- What the search needs no more, beside the groups. -/
def Past (d : Dev nD) (L : grid0.Coords) (q1 q2 : PosShare TreeShare) (f : S128.Idx → F .f32) (q : S64.Idx → F .f32) : sProp 𝕄 :=
  iprop(Tables d L q1 q2 f q ∗ ((tmV).view.loc (thr d L) ↦{fullShare} f) ∗ ((tqV).view.loc (thr d L) ↦{fullShare} q))

/-- From the search to the groups. -/
theorem srch_grp {q1 q2 qx : PosShare TreeShare} {f : S128.Idx → F .f32} {q : S64.Idx → F .f32} {lf rt : S64.Idx → BitVec 32} {wt : S64.Idx → F .f32}
    {X : S33554432.Idx → F .f32} {G : S16777216.Idx → F .f32} {x : S32768.Idx → F .f32} {o : S16384.Idx → F .f32} :
    (Srch d L iprop(Books d L O W ∗ Tables d L q1 q2 f q ∗ Hold d L qx X G x o) f q lf rt wt : sProp 𝕄)
      ⊢ Grp d L (Cop d L O W qx X (Past d L q1 q2 f q) G) x lf rt wt o := by
  unfold Srch Grp Cop Past Hold
  iintro ⟨⟨HB, HT, HX, HG, HA, HC, HI, HOu⟩, D1, D2, D3, D4, D5⟩
  isplitl [HB HT HX HG HA HC D1 D2]
  · isplitl [HB]; · iexact HB
    isplitl [HX]; · iexact HX
    isplitl [HG]; · iexact HG
    isplitl [HA]; · iexact HA
    isplitl [HC]; · iexact HC
    isplitl [HT]; · iexact HT
    isplitl [D1]; · iexact D1
    iexact D2
  isplitl [HI]; · iexact HI
  isplitl [D3]; · iexact D3
  isplitl [D4]; · iexact D4
  isplitl [D5]; · iexact D5
  iexact HOu

theorem tri_lane_loop {Z : sProp 𝕄} {x : S32768.Idx → F .f32} {lf rt : S64.Idx → BitVec 32} {wt : S64.Idx → F .f32} {o : S16384.Idx → F .f32}
    {t2 : Fin k0_t2_loop.trips} {body : Fin k0_t3_loop.trips → BitVec 32 → PROG (F := F) L (BitVec 32)}
    (h : ∀ t3, Tri d L (Grp d L Z x lf rt wt (upTo (grpVal x lf rt wt) o (2048 * t2.val + 512 * t3.val + 16 * 0))) (body t3 0#32) 0#32
      (Grp d L Z x lf rt wt (upTo (grpVal x lf rt wt) o (2048 * t2.val + 512 * (t3.val + 1) + 16 * 0)))) :
    Tri d L (Grp d L Z x lf rt wt (upTo (grpVal x lf rt wt) o (2048 * t2.val))) (Scf.Loop.for k0_t3_loop k0_t3_ok 0#32 body) 0#32
      (Grp d L Z x lf rt wt (upTo (grpVal x lf rt wt) o (2048 * (t2.val + 1)))) :=
  Tri.cast (congrArg (fun n => Grp d L Z x lf rt wt (upTo (grpVal x lf rt wt) o n)) (show 2048 * t2.val = 2048 * t2.val + 512 * 0 + 16 * 0 by omega))
    (congrArg (fun n => Grp d L Z x lf rt wt (upTo (grpVal x lf rt wt) o n)) (show 2048 * (t2.val + 1) = 2048 * t2.val + 512 * k0_t3_loop.trips + 16 * 0 by
      rw [show k0_t3_loop.trips = 4 by decide]; omega))
    (Tri.loop (fun n => Grp d L Z x lf rt wt (upTo (grpVal x lf rt wt) o (2048 * t2.val + 512 * n + 16 * 0))) h)

theorem tri_obs_loop {Z : sProp 𝕄} {x : S32768.Idx → F .f32} {lf rt : S64.Idx → BitVec 32} {wt : S64.Idx → F .f32} {o : S16384.Idx → F .f32}
    {body : Fin k0_t2_loop.trips → BitVec 32 → PROG (F := F) L (BitVec 32)}
    (h : ∀ t2, Tri d L (Grp d L Z x lf rt wt (upTo (grpVal x lf rt wt) o (2048 * t2.val))) (body t2 0#32) 0#32
      (Grp d L Z x lf rt wt (upTo (grpVal x lf rt wt) o (2048 * (t2.val + 1))))) :
    Tri d L (Grp d L Z x lf rt wt o) (Scf.Loop.for k0_t2_loop k0_t2_ok 0#32 body) 0#32
      (Grp d L Z x lf rt wt (upTo (grpVal x lf rt wt) o 16384)) :=
  Tri.cast (congrArg (fun o => Grp d L Z x lf rt wt o) (upTo_zero _ _).symm)
    (congrArg (fun n => Grp d L Z x lf rt wt (upTo (grpVal x lf rt wt) o n)) (show 16384 = 2048 * k0_t2_loop.trips by decide))
    (Tri.loop (fun n => Grp d L Z x lf rt wt (upTo (grpVal x lf rt wt) o (2048 * n))) h)

theorem tri_grp_loop {Z : sProp 𝕄} {qx : PosShare TreeShare} {f : S128.Idx → F .f32} {q : S64.Idx → F .f32} {X : S33554432.Idx → F .f32}
    {G : S16777216.Idx → F .f32} {x : S32768.Idx → F .f32} {o : S16384.Idx → F .f32} {body : Fin k0_t1_loop.trips → BitVec 32 → PROG (F := F) L (BitVec 32)}
    (h : ∀ t1 G x o, Tri d L (Grp d L (Cop d L O W qx X Z G) x (lfT f q) (rtT f q) (wtT f q) o) (body t1 0#32) 0#32
      (Grp d L (Cop d L O W qx X Z (grpOut G (1048576 * (L 1).val + 524288 * (L 0).val + 16384 * t1.val)
        (upTo (grpVal (grpIn X (2097152 * (L 1).val + 1048576 * (L 0).val + 32768 * t1.val)) (lfT f q) (rtT f q) (wtT f q)) o 16384)))
        (grpIn X (2097152 * (L 1).val + 1048576 * (L 0).val + 32768 * t1.val)) (lfT f q) (rtT f q) (wtT f q)
        (upTo (grpVal (grpIn X (2097152 * (L 1).val + 1048576 * (L 0).val + 32768 * t1.val)) (lfT f q) (rtT f q) (wtT f q)) o 16384))) :
    Tri d L (Grp d L (Cop d L O W qx X Z G) x (lfT f q) (rtT f q) (wtT f q) o) (Scf.Loop.for k0_t1_loop k0_t1_ok 0#32 body) 0#32
      (Grp d L (Cop d L O W qx X Z (upG L (resV f q X) G 32)) (xAt L X x 32) (lfT f q) (rtT f q) (wtT f q) (oAt L f q X o 32)) := by
  refine Tri.cast (congrArg (fun G => Grp d L (Cop d L O W qx X Z G) x (lfT f q) (rtT f q) (wtT f q) o) (show G = upG L (resV f q X) G 0 from ?_))
    (congrArg (fun n => Grp d L (Cop d L O W qx X Z (upG L (resV f q X) G n)) (xAt L X x n) (lfT f q) (rtT f q) (wtT f q) (oAt L f q X o n))
      (show 32 = k0_t1_loop.trips by decide))
    (Tri.loop (fun n => Grp d L (Cop d L O W qx X Z (upG L (resV f q X) G n)) (xAt L X x n) (lfT f q) (rtT f q) (wtT f q) (oAt L f q X o n)) fun t1 => ?_)
  · funext i; unfold upG; rw [if_neg (by omega)]
  · have ht : ∀ t : Fin k0_t1_loop.trips, t.val < 32 := by decide
    have h' := h t1 (upG L (resV f q X) G t1.val) (xAt L X x t1.val) (oAt L f q X o t1.val)
    rw [upTo_full f q X t1.val (ht t1) _ o, upG_succ] at h'
    exact h'

set_option maxHeartbeats 40000000 in
/-- The task of a subcore: the tables, the search, the thirty-two groups. -/
theorem tri_body {q1 q2 qx : PosShare TreeShare} {f f0 : S128.Idx → F .f32} {q q0 : S64.Idx → F .f32} {lf rt : S64.Idx → BitVec 32} {wt : S64.Idx → F .f32}
    {X : S33554432.Idx → F .f32} {G : S16777216.Idx → F .f32} {x : S32768.Idx → F .f32} {o : S16384.Idx → F .f32} :
    Tri d L (Srch d L iprop(Books d L O W ∗ Tables d L q1 q2 f q ∗ Hold d L qx X G x o) f0 q0 lf rt wt)
      (cc0_body L tmH (Memref.isWhole_whole _) tqH (Memref.isWhole_whole _) xH (Memref.isWhole_whole _) oH (Memref.isWhole_whole _)
        tmV (Memref.isWhole_whole _) tqV (Memref.isWhole_whole _) lfV (Memref.isWhole_whole _) rtV (Memref.isWhole_whole _)
        wtV (Memref.isWhole_whole _) inV (Memref.isWhole_whole _) ouV (Memref.isWhole_whole _) cc0_scoped0 cc0_scoped1 cc0_scoped2 cc0_scoped3) ⟨⟩
      (Grp d L (Cop d L O W qx X (Past d L q1 q2 f q) (upG L (resV f q X) G 32)) (xAt L X x 32) (lfT f q) (rtT f q) (wtT f q) (oAt L f q X o 32)) := by
  unfold cc0_body
  iterate 4 (
    with_reducible refine Tri.bind (F := F) (v := ?_) (R := ?_) ?_ ?_
    on_goal 3 =>
      first | unfold k0_part219 | unfold k0_part220 | unfold k0_part221 | unfold k0_part222
      repeat (
        with_reducible refine Tri.bind (F := F) (v := ?_) (R := ?_) ?_ ?_
        on_goal 3 =>
          dsimp -proj only [k0_part16, k0_part17, k0_part18, k0_part19, k0_part20, k0_part21, k0_part22, k0_part23, k0_part24, k0_part25, k0_part26, k0_part27, k0_part28, k0_part29, k0_part30, k0_part31, k0_part32, k0_part33, k0_part34, k0_part35, k0_part36, k0_part37, k0_part38, k0_part39, k0_part40, k0_part41, k0_part42, k0_part43, k0_part44, k0_part45, k0_part46, k0_part47, k0_part48, k0_part49, k0_part50, k0_part51, k0_part52, k0_part53, k0_part54, k0_part55, k0_part56, k0_part57, k0_part58, k0_part59, k0_part60, k0_part61, k0_part62, k0_part63, k0_part64, k0_part65, k0_part66, k0_part67, k0_part68, k0_part69, k0_part70, k0_part71, k0_part72, k0_part73, k0_part74, k0_part75, k0_part76, k0_part77, k0_part78, k0_part79, k0_part80, k0_part81, k0_part82, k0_part83, k0_part84, k0_part85, k0_part86, k0_part87, k0_part88, k0_part89, k0_part90, k0_part91, k0_part92, k0_part93, k0_part94, k0_part95, k0_part96, k0_part97, k0_part98, k0_part99, k0_part100, k0_part101, k0_part102, k0_part103, k0_part104, k0_part105, k0_part106, k0_part107, k0_part108, k0_part109, k0_part110, k0_part111, k0_part112, k0_part113, k0_part114, k0_part115, k0_part116, k0_part117, k0_part118, k0_part119, k0_part120, k0_part121, k0_part122, k0_part123, k0_part124, k0_part125, k0_part126, k0_part127, k0_part128, k0_part129, k0_part130, k0_part131, k0_part132, k0_part133, k0_part134, k0_part135, k0_part136, k0_part137, k0_part138, k0_part139, k0_part140, k0_part141, k0_part142, k0_part143, k0_part144, k0_part145, k0_part146, k0_part147, k0_part148, k0_part149, k0_part150, k0_part151, k0_part152, k0_part153, k0_part154, k0_part155, k0_part156, k0_part157, k0_part158, k0_part159, k0_part160, k0_part161, k0_part162, k0_part163, k0_part164, k0_part165, k0_part166, k0_part167, k0_part168, k0_part169, k0_part170, k0_part171, k0_part172, k0_part173, k0_part174, k0_part175, k0_part176, k0_part177, k0_part178, k0_part179, k0_part180, k0_part181, k0_part182, k0_part183, k0_part184, k0_part185, k0_part186, k0_part187, k0_part188, k0_part189, k0_part190, k0_part191, k0_part192, k0_part193, k0_part194, k0_part195, k0_part196, k0_part197, k0_part198, k0_part199, k0_part200, k0_part201, k0_part202, k0_part203, k0_part204, k0_part205, k0_part206, k0_part207, k0_part208, k0_part209, k0_part210, k0_part211, k0_part212, k0_part213, k0_part214, k0_part215, k0_part216, k0_part217, k0_part218]
          repeat (first | with_reducible refine Tri.load_tm (F := F) ?_ | with_reducible refine Tri.load_tq (F := F) ?_ | with_reducible refine Tri.load_lf (F := F) ?_ | with_reducible refine Tri.store_lf (F := F) ?_ | with_reducible refine Tri.load_rt (F := F) ?_ | with_reducible refine Tri.store_rt (F := F) ?_ | with_reducible refine Tri.load_wt (F := F) ?_ | with_reducible refine Tri.store_wt (F := F) ?_)
          first
            | with_reducible refine Tri.ret (F := F) ?_
            | refine tri_tables (F := F) ?_
              repeat (first | with_reducible refine Tri.load_tm (F := F) ?_ | with_reducible refine Tri.load_tq (F := F) ?_ | with_reducible refine Tri.load_lf (F := F) ?_ | with_reducible refine Tri.store_lf (F := F) ?_ | with_reducible refine Tri.load_rt (F := F) ?_ | with_reducible refine Tri.store_rt (F := F) ?_ | with_reducible refine Tri.load_wt (F := F) ?_ | with_reducible refine Tri.store_wt (F := F) ?_)
              with_reducible refine Tri.ret (F := F) ?_
          try simp only [lane_tm, cast_eq16, cntV_zero, cntV_succ, selV_zero, selV_succ, rightV_fold, leftV_fold, left2V_fold, Nat.reduceAdd, Matrix.cons_val_zero]
          exact rfl)
      repeat (first | with_reducible refine Tri.load_tm (F := F) ?_ | with_reducible refine Tri.load_tq (F := F) ?_ | with_reducible refine Tri.load_lf (F := F) ?_ | with_reducible refine Tri.store_lf (F := F) ?_ | with_reducible refine Tri.load_rt (F := F) ?_ | with_reducible refine Tri.store_rt (F := F) ?_ | with_reducible refine Tri.load_wt (F := F) ?_ | with_reducible refine Tri.store_wt (F := F) ?_)
      with_reducible refine Tri.ret (F := F) ?_
      try simp only [cast_eq16]
      exact rfl)
  with_reducible refine Tri.load_rt (F := F) ?_
  with_reducible refine Tri.store_rt (F := F) ?_
  with_reducible refine Tri.load_wt (F := F) ?_
  with_reducible refine Tri.store_wt (F := F) ?_
  simp only [lane_tm, cast_eq16, cntV_zero, cntV_succ, selV_zero, selV_succ, rightV_fold, leftV_fold, left2V_fold, gridV_fold, tlV_fold, tdV_fold, lwV_fold, rwV_fold, wgV_fold, Nat.reduceAdd, Matrix.cons_val_zero]
  refine Tri.pre (srch_grp (F := F)) ?_
  rw [show _ = lfT f q from setBlk_four q (lwV f) (fun a => BitVec.ofNat 32 (32 * mN f a)) (lwV_at f) lf,
    show _ = rtT f q from setBlk_four q (rwV f) (fun a => BitVec.ofNat 32 (32 * rN f a)) (rwV_at f) rt,
    show _ = wtT f q from setBlk_four q (wgV f) (wgtN f) (wgV_at f) wt]
  refine Tri.bind (tri_grp_loop (F := F) fun t1 G x o => ?_) (Tri.ret rfl)
  refine tri_in (F := F) ?_
  refine Tri.bind (tri_obs_loop (F := F) fun t2 => ?_) ?_
  · refine Tri.bind (tri_lane_loop (F := F) fun t3 => ?_) (Tri.ret rfl)
    exact tri_part15 (F := F) (lfT_le f q) (rtT_le f q) t2 t3
  · exact tri_out (F := F) (Tri.ret rfl)

end Cert.KernelIdeal.Hand

end
-- ==== Proof.KernelIdeal.Shares.lean ====
/-
  How the call's operands go out to the subcores and come back: shares of the inputs, cut in halves, and equal pieces of the result.
-/
module

public import proofs.«01_k».proof.Proof.KernelIdeal.Base
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Pipeline.Value
public import proofs.«01_k».proof.Proof.Gen.KernelIdeal
public import proofs.«01_k».proof.Proof.KernelIdeal.Search
public import proofs.«01_k».proof.Proof.Gen.KernelIdeal.Skeleton

@[expose] public section

set_option maxRecDepth 16384

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tmH" => (Memref.whole Cert.KernelIdeal.main_arg0_scv : Memref Cert.KernelIdeal.sig Kind.scVector Space.hbm Cert.KernelIdeal.S128 EltTy.f32)
local notation "tqH" => (Memref.whole Cert.KernelIdeal.main_arg2_scv : Memref Cert.KernelIdeal.sig Kind.scVector Space.hbm Cert.KernelIdeal.S64 EltTy.f32)
local notation "xH" => (Memref.whole Cert.KernelIdeal.main_v0_scv : Memref Cert.KernelIdeal.sig Kind.scVector Space.hbm Cert.KernelIdeal.S33554432 EltTy.f32)
local notation "oH" => (Memref.whole Cert.KernelIdeal.main_v1_scv : Memref Cert.KernelIdeal.sig Kind.scVector Space.hbm Cert.KernelIdeal.S16777216 EltTy.f32)
local notation "tmV" => (Memref.whole Cert.KernelIdeal.cc0_scratch0 : Memref Cert.KernelIdeal.sig Kind.scVector Space.vmem Cert.KernelIdeal.S128 EltTy.f32)
local notation "tqV" => (Memref.whole Cert.KernelIdeal.cc0_scratch1 : Memref Cert.KernelIdeal.sig Kind.scVector Space.vmem Cert.KernelIdeal.S64 EltTy.f32)
local notation "lfV" => (Memref.whole Cert.KernelIdeal.cc0_scratch2 : Memref Cert.KernelIdeal.sig Kind.scVector Space.vmem Cert.KernelIdeal.S64 EltTy.i32)
local notation "rtV" => (Memref.whole Cert.KernelIdeal.cc0_scratch3 : Memref Cert.KernelIdeal.sig Kind.scVector Space.vmem Cert.KernelIdeal.S64 EltTy.i32)
local notation "wtV" => (Memref.whole Cert.KernelIdeal.cc0_scratch4 : Memref Cert.KernelIdeal.sig Kind.scVector Space.vmem Cert.KernelIdeal.S64 EltTy.f32)
local notation "inV" => (Memref.whole Cert.KernelIdeal.cc0_scratch5 : Memref Cert.KernelIdeal.sig Kind.scVector Space.vmem Cert.KernelIdeal.S32768 EltTy.f32)
local notation "ouV" => (Memref.whole Cert.KernelIdeal.cc0_scratch6 : Memref Cert.KernelIdeal.sig Kind.scVector Space.vmem Cert.KernelIdeal.S16384 EltTy.f32)

/-! ## Shares: a share cut in `2 ^ n` -/

/-- Piece `i` of the `2 ^ n` that a share is cut in: the halves of the halves, `n` times. -/
def cut (q : PosShare TreeShare) : ℕ → ℕ → PosShare TreeShare
  | 0, _ => q
  | n + 1, i => if i % 2 = 0 then (cut q n (i / 2)).left else (cut q n (i / 2)).right

/-- The numbers below `2 n`: the even ones, and the odd ones. -/
theorem bigSep_evens_odds (n : ℕ) (Φ : ℕ → sProp 𝕄) :
    bigSep (Finset.range (2 * n)) Φ = iprop(bigSep (Finset.range n) (fun i => Φ (2 * i)) ∗ bigSep (Finset.range n) (fun i => Φ (2 * i + 1))) := by
  let e0 : ℕ ↪ ℕ := ⟨fun i => 2 * i, fun a b h => by have h : 2 * a = 2 * b := h; omega⟩
  let e1 : ℕ ↪ ℕ := ⟨fun i => 2 * i + 1, fun a b h => by have h : 2 * a + 1 = 2 * b + 1 := h; omega⟩
  have h : Finset.range (2 * n) = (Finset.range n).map e0 ∪ (Finset.range n).map e1 := by
    ext i
    simp only [Finset.mem_union, Finset.mem_map, Finset.mem_range]
    constructor
    · intro hi
      rcases Nat.mod_two_eq_zero_or_one i with hm | hm
      · exact .inl ⟨i / 2, by omega, show 2 * (i / 2) = i by omega⟩
      · exact .inr ⟨i / 2, by omega, show 2 * (i / 2) + 1 = i by omega⟩
    · rintro (⟨j, hj, e⟩ | ⟨j, hj, e⟩)
      · have e : 2 * j = i := e; omega
      · have e : 2 * j + 1 = i := e; omega
  have hd : Disjoint ((Finset.range n).map e0) ((Finset.range n).map e1) := by
    refine Finset.disjoint_left.mpr fun i h0 h1 => ?_
    obtain ⟨a, -, ha⟩ := Finset.mem_map.mp h0
    obtain ⟨b, -, hb⟩ := Finset.mem_map.mp h1
    have ha : 2 * a = i := ha
    have hb : 2 * b + 1 = i := hb
    omega
  rw [h, SparseCore.bigSep_union' hd, SparseCore.bigSep_map, SparseCore.bigSep_map]
  rfl

theorem cut_even (q : PosShare TreeShare) (n i : ℕ) : cut q (n + 1) (2 * i) = (cut q n i).left := by
  show (if 2 * i % 2 = 0 then (cut q n (2 * i / 2)).left else (cut q n (2 * i / 2)).right) = _
  rw [if_pos (by omega), show 2 * i / 2 = i by omega]
theorem cut_odd (q : PosShare TreeShare) (n i : ℕ) : cut q (n + 1) (2 * i + 1) = (cut q n i).right := by
  show (if (2 * i + 1) % 2 = 0 then (cut q n ((2 * i + 1) / 2)).left else (cut q n ((2 * i + 1) / 2)).right) = _
  rw [if_neg (by omega), show (2 * i + 1) / 2 = i by omega]

/-- What a share's two halves hold together it holds; then its `2 ^ n` pieces hold together what it holds. -/
theorem cut_all (Φ : PosShare TreeShare → sProp 𝕄) (h : ∀ q, Φ q = iprop(Φ q.left ∗ Φ q.right)) (q : PosShare TreeShare) :
    ∀ n, Φ q = bigSep (Finset.range (2 ^ n)) fun i => Φ (cut q n i)
  | 0 => by rw [pow_zero, Finset.range_one, bigSep_singleton]; rfl
  | n + 1 => by
    rw [pow_succ, Nat.mul_comm, bigSep_evens_odds, ← bigSep_sep', cut_all Φ h q n]
    refine bigSep_congr fun i _ => (h _).trans ?_
    rw [cut_even, cut_odd]

theorem pointsTo_halves {ℓ : Loc nD τ sig} (f : Buf (Elt F) ℓ) (q : PosShare TreeShare) :
    (ℓ ↦{q} f : sProp 𝕄) = iprop((ℓ ↦{q.left} f) ∗ ℓ ↦{q.right} f) :=
  BI.Entails.antisymm (pointsTo_share (PosShare.mem_left_op_right q)).1 (pointsTo_share (PosShare.mem_left_op_right q)).2

/-- What is held for every number below `n`, for `n` numbered things. -/
theorem bigSep_fin_range (n : ℕ) (Φ : ℕ → sProp 𝕄) : (bigSep Finset.univ fun i : Fin n => Φ i.val) = bigSep (Finset.range n) Φ := by
  rw [← Nat.Iio_eq_range, ← Fin.map_valEmbedding_univ, SparseCore.bigSep_map]
  rfl

/-- Three pairs are the three first ones and the three second ones. -/
theorem sep_regroup (A A' B B' C C' : sProp 𝕄) : iprop((A ∗ A') ∗ (B ∗ B') ∗ (C ∗ C')) = iprop((A ∗ B ∗ C) ∗ (A' ∗ B' ∗ C')) := by
  refine BI.Entails.antisymm ?_ ?_
  · show iprop((A ∗ A') ∗ (B ∗ B') ∗ (C ∗ C')) ⊢ iprop((A ∗ B ∗ C) ∗ (A' ∗ B' ∗ C'))
    iintro ⟨⟨A0, A1⟩, ⟨B0, B1⟩, C0, C1⟩
    isplitl [A0 B0 C0]
    · isplitl [A0]; · iexact A0
      isplitl [B0]; · iexact B0
      iexact C0
    · isplitl [A1]; · iexact A1
      isplitl [B1]; · iexact B1
      iexact C1
  · show iprop((A ∗ B ∗ C) ∗ (A' ∗ B' ∗ C')) ⊢ iprop((A ∗ A') ∗ (B ∗ B') ∗ (C ∗ C'))
    iintro ⟨⟨A0, B0, C0⟩, A1, B1, C1⟩
    isplitl [A0 A1]
    · isplitl [A0]; · iexact A0
      iexact A1
    isplitl [B0 B1]
    · isplitl [B0]; · iexact B0
      iexact B1
    isplitl [C0]; · iexact C0
    iexact C1

/-! ## The operands, and the pieces of the result -/

abbrev tmLoc (d : Dev nD) : Loc nD τ sig := (SparseCore.T d).loc main_arg0
abbrev obLoc (d : Dev nD) : Loc nD τ sig := (SparseCore.T d).loc main_arg1
abbrev tqLoc (d : Dev nD) : Loc nD τ sig := (SparseCore.T d).loc main_arg2
abbrev xLoc (d : Dev nD) : Loc nD τ sig := (SparseCore.T d).loc main_v0
abbrev oLoc (d : Dev nD) : Loc nD τ sig := (SparseCore.T d).loc main_v1
abbrev yLoc (d : Dev nD) : Loc nD τ sig := (SparseCore.T d).loc main_v2

/-- Piece `p` of the thirty-two equal pieces of the flat result; the sixteen of them that are a SparseCore's. -/
def span (p : ℕ) : Finset S16777216.Idx := Finset.univ.filter fun i => 524288 * p ≤ (i 0).val ∧ (i 0).val < 524288 * p + 524288
def spans (c : ℕ) : Finset S16777216.Idx := (Finset.range (2 ^ 4)).biUnion fun s => span (2 * s + c)

theorem mem_span {p : ℕ} {i : S16777216.Idx} : i ∈ span p ↔ 524288 * p ≤ (i 0).val ∧ (i 0).val < 524288 * p + 524288 := by
  unfold span; rw [Finset.mem_filter]; exact and_iff_right (Finset.mem_univ i)

theorem span_disjoint {p r : ℕ} (h : p ≠ r) : Disjoint (span p) (span r) := by
  refine Finset.disjoint_left.mpr fun i h0 h1 => h ?_
  rw [mem_span] at h0 h1
  omega

theorem spans_disjoint {c e : ℕ} (hc : c < 2) (he : e < 2) (h : c ≠ e) : Disjoint (spans c) (spans e) := by
  refine Finset.disjoint_left.mpr fun i h0 h1 => h ?_
  obtain ⟨s, -, hs⟩ := Finset.mem_biUnion.mp h0
  obtain ⟨t, -, ht⟩ := Finset.mem_biUnion.mp h1
  rw [mem_span] at hs ht
  omega

theorem spans_cover : (Finset.range (2 ^ 1)).biUnion spans = Finset.univ := by
  refine Finset.eq_univ_iff_forall.mpr fun i => ?_
  have hi : (i 0).val < 16777216 := (i 0).isLt
  refine Finset.mem_biUnion.mpr ⟨(i 0).val / 524288 % 2, Finset.mem_range.mpr (Nat.mod_lt _ (by decide)),
    Finset.mem_biUnion.mpr ⟨(i 0).val / 524288 / 2, Finset.mem_range.mpr (by omega), mem_span.mpr ?_⟩⟩
  omega

/-- A share of the three inputs of the call, and some words of its result whole. -/
abbrev Part (d : Dev nD) (f : S128.Idx → F .f32) (q : S64.Idx → F .f32) (X : S33554432.Idx → F .f32) (u : PosShare TreeShare)
    (I : Finset S16777216.Idx) (G : S16777216.Idx → F .f32) : sProp 𝕄 :=
  iprop(((tmLoc d ↦{u} f) ∗ (tqLoc d ↦{u} q) ∗ (xLoc d ↦{u} X)) ∗ oLoc d ↦[I]{fullShare} G)

/-- Such a part is cut in `2 ^ n`, the shares and the words. -/
theorem part_cut (d : Dev nD) (f : S128.Idx → F .f32) (q : S64.Idx → F .f32) (X : S33554432.Idx → F .f32) (u : PosShare TreeShare) (n : ℕ)
    (I : ℕ → Finset S16777216.Idx) (hI : ∀ i < 2 ^ n, ∀ j < 2 ^ n, i ≠ j → Disjoint (I i) (I j)) (G : S16777216.Idx → F .f32) :
    (Part d f q X u ((Finset.range (2 ^ n)).biUnion I) G : sProp 𝕄)
      = bigSep (Finset.range (2 ^ n)) fun i => Part d f q X (cut u n i) (I i) G := by
  have hs : (oLoc d ↦[(Finset.range (2 ^ n)).biUnion I]{fullShare} G : sProp 𝕄) = bigSep (Finset.range (2 ^ n)) fun i => oLoc d ↦[I i]{fullShare} G :=
    pointsTo_biUnion (ℓ := oLoc d) (Finset.range (2 ^ n)) I fun i hi j hj h => hI i (Finset.mem_range.mp hi) j (Finset.mem_range.mp hj) h
  have hc := cut_all (F := F) (fun u => iprop((tmLoc d ↦{u} f) ∗ (tqLoc d ↦{u} q) ∗ (xLoc d ↦{u} X))) (fun u => by
    rw [pointsTo_halves (ℓ := tmLoc d) f u, pointsTo_halves (ℓ := tqLoc d) q u, pointsTo_halves (ℓ := xLoc d) X u]
    exact sep_regroup _ _ _ _ _ _) u n
  unfold Part
  rw [hs, hc, ← bigSep_sep']

end Cert.KernelIdeal.Hand

end
-- ==== Proof.KernelIdeal.Launch.lean ====
/-
  The launch of the call: what its handshakes carry, the task of every subcore as the launch asks for it, and how the operands go out and come back.
-/
module

public import proofs.«01_k».proof.Proof.KernelIdeal.Base
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Pipeline.Value
public import proofs.«01_k».proof.Proof.Gen.KernelIdeal
public import proofs.«01_k».proof.Proof.KernelIdeal.Search
public import proofs.«01_k».proof.Proof.KernelIdeal.Inner
public import proofs.«01_k».proof.Proof.KernelIdeal.Copies
public import proofs.«01_k».proof.Proof.KernelIdeal.Model
public import proofs.«01_k».proof.Proof.KernelIdeal.Row
public import proofs.«01_k».proof.Proof.KernelIdeal.Body
public import proofs.«01_k».proof.Proof.KernelIdeal.Shares
public import proofs.«01_k».proof.Proof.Gen.KernelIdeal.Skeleton

@[expose] public section

set_option maxRecDepth 16384

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tmH" => (Memref.whole Cert.KernelIdeal.main_arg0_scv : Memref Cert.KernelIdeal.sig Kind.scVector Space.hbm Cert.KernelIdeal.S128 EltTy.f32)
local notation "tqH" => (Memref.whole Cert.KernelIdeal.main_arg2_scv : Memref Cert.KernelIdeal.sig Kind.scVector Space.hbm Cert.KernelIdeal.S64 EltTy.f32)
local notation "xH" => (Memref.whole Cert.KernelIdeal.main_v0_scv : Memref Cert.KernelIdeal.sig Kind.scVector Space.hbm Cert.KernelIdeal.S33554432 EltTy.f32)
local notation "oH" => (Memref.whole Cert.KernelIdeal.main_v1_scv : Memref Cert.KernelIdeal.sig Kind.scVector Space.hbm Cert.KernelIdeal.S16777216 EltTy.f32)
local notation "tmV" => (Memref.whole Cert.KernelIdeal.cc0_scratch0 : Memref Cert.KernelIdeal.sig Kind.scVector Space.vmem Cert.KernelIdeal.S128 EltTy.f32)
local notation "tqV" => (Memref.whole Cert.KernelIdeal.cc0_scratch1 : Memref Cert.KernelIdeal.sig Kind.scVector Space.vmem Cert.KernelIdeal.S64 EltTy.f32)
local notation "lfV" => (Memref.whole Cert.KernelIdeal.cc0_scratch2 : Memref Cert.KernelIdeal.sig Kind.scVector Space.vmem Cert.KernelIdeal.S64 EltTy.i32)
local notation "rtV" => (Memref.whole Cert.KernelIdeal.cc0_scratch3 : Memref Cert.KernelIdeal.sig Kind.scVector Space.vmem Cert.KernelIdeal.S64 EltTy.i32)
local notation "wtV" => (Memref.whole Cert.KernelIdeal.cc0_scratch4 : Memref Cert.KernelIdeal.sig Kind.scVector Space.vmem Cert.KernelIdeal.S64 EltTy.f32)
local notation "inV" => (Memref.whole Cert.KernelIdeal.cc0_scratch5 : Memref Cert.KernelIdeal.sig Kind.scVector Space.vmem Cert.KernelIdeal.S32768 EltTy.f32)
local notation "ouV" => (Memref.whole Cert.KernelIdeal.cc0_scratch6 : Memref Cert.KernelIdeal.sig Kind.scVector Space.vmem Cert.KernelIdeal.S16384 EltTy.f32)

variable [FloatOps F] (m : (ℓ : Loc nD τ sig) → Buf (Elt F) ℓ) (ρ : Dev nD → PrngReg)

/-! ## What the handshakes carry -/

/-- The observations flat, as the call reads them, and the result it leaves. -/
def flatX (d : Dev nD) : S33554432.Idx → F .f32 := shapeCast S33554432 (m (obLoc d)) Gen.shapeCasts_S4x2048x128x32_S33554432
def flatR (d : Dev nD) : S16777216.Idx → F .f32 := fun i => resV (m (tmLoc d)) (m (tqLoc d)) (flatX m d) (i 0).val

/-- What is cut out for the handshakes: a share of the inputs, and words of the result at given contents. -/
abbrev Cut (d : Dev nD) (u : PosShare TreeShare) (I : Finset S16777216.Idx) (G : S16777216.Idx → F .f32) : sProp 𝕄 :=
  Part d (m (tmLoc d)) (m (tqLoc d)) (flatX m d) u I G

/-- The share of a SparseCore, and that of a subcore. -/
abbrev qC (c : ℕ) : PosShare TreeShare := cut fullShare 1 c
abbrev qT (c s : ℕ) : PosShare TreeShare := cut (qC c) 4 s

/-- A SparseCore takes half a share of the inputs and its sixteen pieces of the result, a subcore a sixteenth of that and its
    piece; they bring them back with the result written. -/
def P : (K (F := F)).Pay (nD := nD) (Val := Elt F) (Name := ℕ) (U := UU) where
  st := fun q d c => match q with | 0 => Cut m d (qC c.val) (spans c.val) (m (oLoc d))
  dn := fun q d c => match q with | 0 => Cut m d (qC c.val) (spans c.val) (flatR m d)
  go := fun q d c i => match q with | 0 => Cut m d (qT c.val i.val) (span (2 * i.val + c.val)) (m (oLoc d))
  td := fun q d c i => match q with | 0 => Cut m d (qT c.val i.val) (span (2 * i.val + c.val)) (flatR m d)
  x := fun _ _ => iprop(emp)

instance P_storable : (P (F := F) m).IsStorable where
  st q d c := match q with
    | 0 => (inferInstance : BI.Storable (upEmb : UEmb _ 𝕄) (Cut m d (qC c.val) (spans c.val) (m (oLoc d))))
  dn q d c := match q with
    | 0 => (inferInstance : BI.Storable (upEmb : UEmb _ 𝕄) (Cut m d (qC c.val) (spans c.val) (flatR m d)))
  go q d c i := match q with
    | 0 => (inferInstance : BI.Storable (upEmb : UEmb _ 𝕄) (Cut m d (qT c.val i.val) (span (2 * i.val + c.val)) (m (oLoc d))))
  td q d c i := match q with
    | 0 => (inferInstance : BI.Storable (upEmb : UEmb _ 𝕄) (Cut m d (qT c.val i.val) (span (2 * i.val + c.val)) (flatR m d)))

/-! ## The task -/

section Tile

variable (d : Dev nD) (L : grid0.Coords)

/-- The scratch of a subcore, and the semaphores of its copies. -/
abbrev scrs : Finset (Ref sig .scVector) :=
  {cc0_scratch0, cc0_scratch1, cc0_scratch2, cc0_scratch3, cc0_scratch4, cc0_scratch5, cc0_scratch6}
abbrev dmas : Finset (SemLoc sig) :=
  {SemLoc.dma cc0_scoped0.sem, SemLoc.dma cc0_scoped1.sem, SemLoc.dma cc0_scoped2.sem, SemLoc.dma cc0_scoped3.sem}

/-- A scratch buffer as the device's, a semaphore as the subcore's. -/
abbrev scrEmb : Ref sig .scVector ↪ DevRef τ sig := ⟨(Proc.scVector (cV L) (jV L)).devRef, Proc.devRef_injective _⟩
abbrev dmaEmb : SemLoc sig ↪ GSem nD τ sig := ⟨fun s => (thr d L, s), fun _ _ h => (Prod.mk.inj h).2⟩

omit [FloatOps F] in
/-- The scratch is among the subcore's own buffers. -/
theorem own_scratch : ∃ Z : sProp 𝕄, (ownBufs (thr d L) : sProp 𝕄)
    = iprop(((∃ f, (thr d L).loc cc0_scratch0 ↦{fullShare} f) ∗ (∃ f, (thr d L).loc cc0_scratch1 ↦{fullShare} f)
      ∗ (∃ f, (thr d L).loc cc0_scratch2 ↦{fullShare} f) ∗ (∃ f, (thr d L).loc cc0_scratch3 ↦{fullShare} f)
      ∗ (∃ f, (thr d L).loc cc0_scratch4 ↦{fullShare} f) ∗ (∃ f, (thr d L).loc cc0_scratch5 ↦{fullShare} f)
      ∗ (∃ f, (thr d L).loc cc0_scratch6 ↦{fullShare} f)) ∗ Z) := by
  refine ⟨_, (SparseCore.bigSep_sdiff_split' (t := scrs.map (scrEmb L)) fun b hb => ?_).trans
    (congrArg (fun A : sProp 𝕄 => iprop(A ∗ _)) ?_)⟩
  · obtain ⟨r, hr, rfl⟩ := Finset.mem_map.mp hb
    refine SparseCore.Cfg.mem_ownRefs_of_owner (p := Proc.scVector (cV L) (jV L)) ?_
    simp only [Finset.mem_insert, Finset.mem_singleton] at hr
    rcases hr with rfl | rfl | rfl | rfl | rfl | rfl | rfl <;> rfl
  · rw [SparseCore.bigSep_map]
    rw [SparseCore.bigSep_insert' (by decide), SparseCore.bigSep_insert' (by decide), SparseCore.bigSep_insert' (by decide),
      SparseCore.bigSep_insert' (by decide), SparseCore.bigSep_insert' (by decide), SparseCore.bigSep_insert' (by decide), bigSep_singleton]
    rfl

omit [FloatOps F] in
/-- The copies' semaphores are among the subcore's own. -/
theorem own_sems : ∃ Z : sProp 𝕄, (ownSems0 (thr d L) : sProp 𝕄)
    = iprop((semVal (thr d L, SemLoc.dma cc0_scoped0.sem) 0 ∗ semVal (thr d L, SemLoc.dma cc0_scoped1.sem) 0
      ∗ semVal (thr d L, SemLoc.dma cc0_scoped2.sem) 0 ∗ semVal (thr d L, SemLoc.dma cc0_scoped3.sem) 0) ∗ Z) := by
  refine ⟨_, (SparseCore.bigSep_sdiff_split' (t := dmas.map (dmaEmb d L)) fun g hg => ?_).trans
    (congrArg (fun A : sProp 𝕄 => iprop(A ∗ _)) ?_)⟩
  · obtain ⟨s, hs, rfl⟩ := Finset.mem_map.mp hg
    have h : ∀ s ∈ dmas, s.isScoped .scVector = true := by decide
    exact mem_ownCells.mpr ⟨rfl, h s hs⟩
  · rw [SparseCore.bigSep_map]
    rw [SparseCore.bigSep_insert' (by decide), SparseCore.bigSep_insert' (by decide), SparseCore.bigSep_insert' (by decide), bigSep_singleton]
    rfl

omit [FloatOps F] in
theorem reg_span : (reg d L : Finset S16777216.Idx) = span (2 * (L 1).val + (L 0).val) := by
  ext i
  rw [mem_span]
  refine (Finset.mem_filter.trans (and_iff_right (Finset.mem_univ i))).trans ?_
  show 1048576 * (L 1).val + 524288 * (L 0).val ≤ (i 0).val ∧ (i 0).val < 1048576 * (L 1).val + 524288 * (L 0).val + 524288 ↔ _
  omega

/-- A subcore's words, all its groups done, are the result's. -/
theorem reg_done :
    ((oLoc d ↦[reg d L]{fullShare} upG L (resV (m (tmLoc d)) (m (tqLoc d)) (flatX m d)) (m (oLoc d)) 32 : sProp 𝕄))
      = oLoc d ↦[span (2 * (L 1).val + (L 0).val)]{fullShare} flatR m d := by
  rw [reg_span]
  refine pointsTo_congr fun i hi => ?_
  have h := mem_span.mp hi
  unfold upG flatR
  rw [if_pos (by omega)]

/-- The task on the subcore at `L`: from its share of the inputs and its words of the result to them written. -/
theorem tile_body (hF : (K (F := F)).Facts) (u : PosShare TreeShare) (O : CellTallies nD τ sig (HIx 1)) (W : Waits sig (HIx 1))
    (hO : ∀ g, O g none = 0) :
    iprop(levAts (K (F := F)).L (K (F := F)).lev ∗ emp ∗ Cut m d u (span (2 * (L 1).val + (L 0).val)) (m (oLoc d))
        ∗ scopedBufs (thr d L) ∗ scopedSems0 (thr d L) ∗ owes (thr d L) O W)
      ⊢ wp frame (wpE (defs₀ (F := F)) 𝒱₀ (thr d L) none) Set.univ
          (cc0_body L tmH (Memref.isWhole_whole _) tqH (Memref.isWhole_whole _) xH (Memref.isWhole_whole _) oH (Memref.isWhole_whole _)
            tmV (Memref.isWhole_whole _) tqV (Memref.isWhole_whole _) lfV (Memref.isWhole_whole _) rtV (Memref.isWhole_whole _)
            wtV (Memref.isWhole_whole _) inV (Memref.isWhole_whole _) ouV (Memref.isWhole_whole _) cc0_scoped0 cc0_scoped1 cc0_scoped2 cc0_scoped3)
          fun _ => iprop(Cut m d u (span (2 * (L 1).val + (L 0).val)) (flatR m d)
            ∗ scopedBufs (thr d L) ∗ scopedSems0 (thr d L) ∗ ∃ W', ⌜∀ p ∈ W', p ∈ W ∨ p.2 = none⌝ ∗ owes (thr d L) O W') := by
  obtain ⟨ZB, hB⟩ := own_scratch (F := F) d L
  obtain ⟨ZS, hS⟩ := own_sems (F := F) d L
  rw [(K (F := F)).scopedBufs_V hF d (cV L) (jV L), SparseCore.Cfg.scopedSems0_V (Val := Elt F) d (cV L) (jV L), hB, hS]
  iintro ⟨#Hlv, -, ⟨⟨Htm, Htq, Hx⟩, Ho⟩, ⟨⟨⟨%f0, H0⟩, ⟨%f1, H1⟩, ⟨%f2, H2⟩, ⟨%f3, H3⟩, ⟨%f4, H4⟩, ⟨%f5, H5⟩, ⟨%f6, H6⟩⟩, HZB⟩, ⟨⟨S0, S1, S2, S3⟩, HZS⟩, HO⟩
  ihave Hmw := (show levAts (K (F := F)).L (K (F := F)).lev ⊢ Transfers.MayWaits (thr d L) (none : HIx 1) O from
    (K (F := F)).mayWaits_none (thr := thr d L) hO) $$ Hlv
  ihave Ho' := (Entails.of_eq (congrArg (fun I => (oLoc d ↦[I]{fullShare} m (oLoc d) : sProp 𝕄)) (reg_span d L).symm)) $$ Ho
  iapply (tri_body (F := F) (d := d) (L := L) (O := O) (W := W) (q1 := u) (q2 := u) (qx := u) (f := m (tmLoc d)) (f0 := f0) (q := m (tqLoc d)) (q0 := f1)
    (lf := f2) (rt := f3) (wt := f4) (X := flatX m d) (G := m (oLoc d)) (x := f5) (o := f6) _)
  unfold Srch Grp Cop Past Hold Tables Books
  isplitr [HZB HZS]
  · isplitr [H0 H1 H2 H3 H4]
    · isplitl [Hmw HO]
      · isplitl [Hmw]; · iexact Hmw
        iexists W; isplitr
        · ipureintro; exact fun p hp => .inl hp
        · iexact HO
      isplitl [Htm Htq S0 S1]
      · isplitl [Htm]; · iexact Htm
        isplitl [Htq]; · iexact Htq
        isplitl [S0]; · iexact S0
        iexact S1
      isplitl [Hx]; · iexact Hx
      isplitl [Ho']; · iexact Ho'
      isplitl [S2]; · iexact S2
      isplitl [S3]; · iexact S3
      isplitl [H5]; · iexact H5
      iexact H6
    isplitl [H0]; · iexact H0
    isplitl [H1]; · iexact H1
    isplitl [H2]; · iexact H2
    isplitl [H3]; · iexact H3
    iexact H4
  iintro ⟨⟨⟨-, HO⟩, Hx, Ho, S2, S3, ⟨Htm, Htq, S0, S1⟩, H0, H1⟩, H5, H2, H3, H4, H6⟩
  isplitl [Htm Htq Hx Ho]
  · isplitl [Htm Htq Hx]
    · isplitl [Htm]; · iexact Htm
      isplitl [Htq]; · iexact Htq
      iexact Hx
    iapply (Entails.of_eq (reg_done m d L)); iexact Ho
  isplitl [H0 H1 H2 H3 H4 H5 H6 HZB]
  · isplitr [HZB]
    · isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      iexists _; iexact H6
    iexact HZB
  isplitl [S0 S1 S2 S3 HZS]
  · isplitr [HZS]
    · isplitl [S0]; · iexact S0
      isplitl [S1]; · iexact S1
      isplitl [S2]; · iexact S2
      iexact S3
    iexact HZS
  iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_body (coordsV c s)
          tmH (Memref.isWhole_whole _) tqH (Memref.isWhole_whole _) xH (Memref.isWhole_whole _) oH (Memref.isWhole_whole _)
          tmV (Memref.isWhole_whole _) tqV (Memref.isWhole_whole _) lfV (Memref.isWhole_whole _) rtV (Memref.isWhole_whole _)
          wtV (Memref.isWhole_whole _) inV (Memref.isWhole_whole _) ouV (Memref.isWhole_whole _) cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The launch's obligation at the call: every subcore of the grid runs its task. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF (qT c.val i.val) O W hO).trans (wp_mono frame _ _ fun _ => obl_post)

end Tile

/-! ## The call's operands go out and come back -/

/-- A SparseCore's part is its subcores' parts. -/
theorem cut_core (d : Dev nD) (c : ℕ) (G : S16777216.Idx → F .f32) :
    Cut m d (qC c) (spans c) G = bigSep Finset.univ fun i : Fin ((K (F := F)).nSub 0) => Cut m d (qT c i.val) (span (2 * i.val + c)) G :=
  (part_cut d _ _ _ (qC c) 4 (fun s => span (2 * s + c)) (fun i _ j _ h => span_disjoint (by omega)) G).trans
    (bigSep_fin_range (F := F) 16 (fun i => Cut m d (qT c i) (span (2 * i + c)) G)).symm

/-- The whole is the SparseCores' parts. -/
theorem cut_whole (d : Dev nD) (G : S16777216.Idx → F .f32) :
    Cut m d fullShare Finset.univ G = bigSep Finset.univ fun c : Fin ((K (F := F)).nCore 0) => Cut m d (qC c.val) (spans c.val) G := by
  rw [← spans_cover]
  exact (part_cut d _ _ _ fullShare 1 spans (fun i hi j hj h => spans_disjoint hi hj h) G).trans
    (bigSep_fin_range (F := F) 2 (fun c => Cut m d (qC c) (spans c) G)).symm

theorem vecSplit : (K (F := F)).VecSplit' (P m) 0 := by
  intro d c
  show Cut m d (qC c.val) (spans c.val) (m (oLoc d)) ⊢ |={Set.univ}=> iprop(
      (bigSep Finset.univ fun i : Fin ((K (F := F)).nSub 0) => Cut m d (qT c.val i.val) (span (2 * i.val + c.val)) (m (oLoc d)))
      ∗ ((bigSep Finset.univ fun i : Fin ((K (F := F)).nSub 0) => Cut m d (qT c.val i.val) (span (2 * i.val + c.val)) (flatR m d))
          -∗ Cut m d (qC c.val) (spans c.val) (flatR m d)))
  rw [cut_core, cut_core]
  iintro H; imodintro
  isplitl [H]; · iexact H
  iintro H'; iexact H'

end Cert.KernelIdeal.Hand

end
-- ==== Proof.KernelIdeal.Run.lean ====
/-
  The program's run: @main on the TensorCore around the call, and what every fair execution ends in.
-/
module

public import proofs.«01_k».proof.Proof.KernelIdeal.Base
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Pipeline.Value
public import proofs.«01_k».proof.Proof.Gen.KernelIdeal
public import proofs.«01_k».proof.Proof.KernelIdeal.Search
public import proofs.«01_k».proof.Proof.KernelIdeal.Inner
public import proofs.«01_k».proof.Proof.KernelIdeal.Copies
public import proofs.«01_k».proof.Proof.KernelIdeal.Model
public import proofs.«01_k».proof.Proof.KernelIdeal.Row
public import proofs.«01_k».proof.Proof.KernelIdeal.Body
public import proofs.«01_k».proof.Proof.KernelIdeal.Shares
public import proofs.«01_k».proof.Proof.KernelIdeal.Launch
public import proofs.«01_k».proof.Proof.Gen.KernelIdeal.Skeleton

@[expose] public section

set_option maxRecDepth 16384

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tmH" => (Memref.whole Cert.KernelIdeal.main_arg0_scv : Memref Cert.KernelIdeal.sig Kind.scVector Space.hbm Cert.KernelIdeal.S128 EltTy.f32)
local notation "tqH" => (Memref.whole Cert.KernelIdeal.main_arg2_scv : Memref Cert.KernelIdeal.sig Kind.scVector Space.hbm Cert.KernelIdeal.S64 EltTy.f32)
local notation "xH" => (Memref.whole Cert.KernelIdeal.main_v0_scv : Memref Cert.KernelIdeal.sig Kind.scVector Space.hbm Cert.KernelIdeal.S33554432 EltTy.f32)
local notation "oH" => (Memref.whole Cert.KernelIdeal.main_v1_scv : Memref Cert.KernelIdeal.sig Kind.scVector Space.hbm Cert.KernelIdeal.S16777216 EltTy.f32)
local notation "tmV" => (Memref.whole Cert.KernelIdeal.cc0_scratch0 : Memref Cert.KernelIdeal.sig Kind.scVector Space.vmem Cert.KernelIdeal.S128 EltTy.f32)
local notation "tqV" => (Memref.whole Cert.KernelIdeal.cc0_scratch1 : Memref Cert.KernelIdeal.sig Kind.scVector Space.vmem Cert.KernelIdeal.S64 EltTy.f32)
local notation "lfV" => (Memref.whole Cert.KernelIdeal.cc0_scratch2 : Memref Cert.KernelIdeal.sig Kind.scVector Space.vmem Cert.KernelIdeal.S64 EltTy.i32)
local notation "rtV" => (Memref.whole Cert.KernelIdeal.cc0_scratch3 : Memref Cert.KernelIdeal.sig Kind.scVector Space.vmem Cert.KernelIdeal.S64 EltTy.i32)
local notation "wtV" => (Memref.whole Cert.KernelIdeal.cc0_scratch4 : Memref Cert.KernelIdeal.sig Kind.scVector Space.vmem Cert.KernelIdeal.S64 EltTy.f32)
local notation "inV" => (Memref.whole Cert.KernelIdeal.cc0_scratch5 : Memref Cert.KernelIdeal.sig Kind.scVector Space.vmem Cert.KernelIdeal.S32768 EltTy.f32)
local notation "ouV" => (Memref.whole Cert.KernelIdeal.cc0_scratch6 : Memref Cert.KernelIdeal.sig Kind.scVector Space.vmem Cert.KernelIdeal.S16384 EltTy.f32)

open Idealize.ShloMosaic.StableHlo (held wp_hlo_within)

variable [FloatOps F] (m : (ℓ : Loc nD τ sig) → Buf (Elt F) ℓ) (ρ : Dev nD → PrngReg)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)

/-- The operations of @main before the call and after it. -/
abbrev opIn : HloOp τ sig (Elt F) := StableHlo.reshape main_arg1 main_v0 (rfl : (.f32 : EltTy) = .f32) Gen.shapeCasts_S4x2048x128x32_S33554432
abbrev opOut : HloOp τ sig (Elt F) := StableHlo.reshape main_v1 main_v2 (rfl : (.f32 : EltTy) = .f32) Gen.shapeCasts_S16777216_S4x2048x64x32

/-- The arrays of @main. -/
abbrev S6 : Finset (DevRef τ sig) := {a0', a1', a2', v0', v1', v2'}

/-- They, each at what a valuation says. -/
abbrev Six (d : Dev nD) (V : Valuation τ sig (Elt F)) : sProp 𝕄 :=
  iprop((tmLoc d ↦{fullShare} V a0') ∗ (obLoc d ↦{fullShare} V a1') ∗ (tqLoc d ↦{fullShare} V a2')
    ∗ (xLoc d ↦{fullShare} V v0') ∗ (oLoc d ↦{fullShare} V v1') ∗ yLoc d ↦{fullShare} V v2')

omit [FloatOps F] in
theorem held_S6 (d : Dev nD) (V : Valuation τ sig (Elt F)) : (held (T d) S6 V : sProp 𝕄) = Six d V := by
  unfold held S6
  rw [SparseCore.bigSep_insert' (by decide), SparseCore.bigSep_insert' (by decide), SparseCore.bigSep_insert' (by decide),
    SparseCore.bigSep_insert' (by decide), SparseCore.bigSep_insert' (by decide), bigSep_singleton]

/-- What the arrays hold at the launch, before the call, after it, and at the end. -/
def V0 (d : Dev nD) : Valuation τ sig (Elt F) := fun b => m (d, b)
def V1 (d : Dev nD) : Valuation τ sig (Elt F) := (opIn (F := F)).result (V0 m d)
def V2 (d : Dev nD) : Valuation τ sig (Elt F) := Function.update (V1 m d) v1' (flatR m d)
def V3 (d : Dev nD) : Valuation τ sig (Elt F) := (opOut (F := F)).result (V2 m d)

omit [FloatOps F] in
theorem unscopedBufs_eq (d : Dev nD) (W : (b : Ref sig .tc) → Buf (Elt F) ((d.tc : Thread nD τ).loc b)) :
    (unscopedBufs d W : sProp 𝕄) = iprop((tmLoc d ↦{fullShare} W main_arg0) ∗ (obLoc d ↦{fullShare} W main_arg1) ∗ (tqLoc d ↦{fullShare} W main_arg2)
      ∗ (xLoc d ↦{fullShare} W main_v0) ∗ (oLoc d ↦{fullShare} W main_v1) ∗ yLoc d ↦{fullShare} W main_v2) := by
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]

omit [FloatOps F] in
theorem unscoped_six (d : Dev nD) : (unscopedBufs d (fun b => m ((SparseCore.T d).loc b)) : sProp 𝕄) = held (T d) S6 (V0 m d) := by
  rw [unscopedBufs_eq, held_S6]; rfl

omit [FloatOps F] in
theorem V1_v0 (d : Dev nD) : V1 m d v0' = flatX m d := StableHlo.reshape_result main_arg1 main_v0 _ _ _ _ (V0 m d)
omit [FloatOps F] in
theorem V1_ne (d : Dev nD) (b : Ref sig .tc) (h : b ≠ main_v0) : V1 m d (Proc.devRef .tc b) = V0 m d (Proc.devRef .tc b) :=
  StableHlo.reshape_result_ne _ _ _ _ _ _ (V0 m d) h
theorem V2_v1 (d : Dev nD) : V2 m d v1' = flatR m d := Function.update_self _ _ _
theorem V2_ne (d : Dev nD) (b : DevRef τ sig) (h : b ≠ v1') : V2 m d b = V1 m d b := Function.update_of_ne h _ _
theorem V3_ne (d : Dev nD) (b : Ref sig .tc) (h : b ≠ main_v2) : V3 m d (Proc.devRef .tc b) = V2 m d (Proc.devRef .tc b) :=
  StableHlo.reshape_result_ne _ _ _ _ _ _ (V2 m d) h

/-- The result of the program. -/
def resR (d : Dev nD) : S4x2048x64x32.Idx → F .f32 := shapeCast S4x2048x64x32 (flatR m d) Gen.shapeCasts_S16777216_S4x2048x64x32

theorem V3_v2 (d : Dev nD) : V3 m d v2' = resR m d :=
  (StableHlo.reshape_result main_v1 main_v2 _ _ _ _ (V2 m d)).trans (by rw [V2_v1]; rfl)

/-- An argument's array keeps what it held. -/
theorem V3_arg (d : Dev nD) (b : Ref sig .tc) (h0 : b ≠ main_v0) (h1 : b ≠ main_v1) (h2 : b ≠ main_v2) :
    V3 m d (Proc.devRef .tc b) = m (d, Proc.devRef .tc b) := by
  rw [V3_ne m d b h2, V2_ne m d _ (fun e => h1 (Proc.devRef_injective _ e)), V1_ne m d b h0]; rfl

theorem hIn : (opIn (F := F)).bufs ⊆ S6 := show ({a1', v0'} : Finset (DevRef τ sig)) ⊆ S6 by decide
theorem hOut : (opOut (F := F)).bufs ⊆ S6 := show ({v1', v2'} : Finset (DevRef τ sig)) ⊆ S6 by decide

/-- What the call takes for the SparseCores, and what it hands back. -/
theorem st0_eq (d : Dev nD) : (bigSep Finset.univ fun c : Fin ((K (F := F)).nCore 0) => (P m).st 0 d c) = Cut m d fullShare Finset.univ (m (oLoc d)) :=
  (cut_whole m d _).symm
theorem dn0_eq (d : Dev nD) : (bigSep Finset.univ fun c : Fin ((K (F := F)).nCore 0) => (P m).dn 0 d c) = Cut m d fullShare Finset.univ (flatR m d) :=
  (cut_whole m d _).symm

/-- Before the call the arrays are its operands and the two it does not touch; -/
theorem six_V1 (d : Dev nD) : (Six d (V1 m d) : sProp 𝕄)
    ⊢ iprop(Cut m d fullShare Finset.univ (m (oLoc d)) ∗ (obLoc d ↦{fullShare} m (obLoc d)) ∗ yLoc d ↦{fullShare} m (yLoc d)) := by
  unfold Six Cut Part
  rw [V1_v0, show V1 m d a0' = m (tmLoc d) from V1_ne m d main_arg0 (by decide), show V1 m d a1' = m (obLoc d) from V1_ne m d main_arg1 (by decide),
    show V1 m d a2' = m (tqLoc d) from V1_ne m d main_arg2 (by decide), show V1 m d v1' = m (oLoc d) from V1_ne m d main_v1 (by decide),
    show V1 m d v2' = m (yLoc d) from V1_ne m d main_v2 (by decide)]
  iintro ⟨H0, H1, H2, H3, H4, H5⟩
  isplitl [H0 H2 H3 H4]
  · isplitl [H0 H2 H3]
    · isplitl [H0]; · iexact H0
      isplitl [H2]; · iexact H2
      iexact H3
    iexact H4
  isplitl [H1]; · iexact H1
  iexact H5

/-- after it they are again the arrays. -/
theorem six_V2 (d : Dev nD) :
    (iprop(Cut m d fullShare Finset.univ (flatR m d) ∗ (obLoc d ↦{fullShare} m (obLoc d)) ∗ yLoc d ↦{fullShare} m (yLoc d)) : sProp 𝕄)
      ⊢ Six d (V2 m d) := by
  unfold Six Cut Part
  rw [V2_v1, V2_ne m d a0' (by decide), V2_ne m d a1' (by decide), V2_ne m d a2' (by decide), V2_ne m d v0' (by decide), V2_ne m d v2' (by decide),
    V1_v0, show V1 m d a0' = m (tmLoc d) from V1_ne m d main_arg0 (by decide), show V1 m d a1' = m (obLoc d) from V1_ne m d main_arg1 (by decide),
    show V1 m d a2' = m (tqLoc d) from V1_ne m d main_arg2 (by decide), show V1 m d v2' = m (yLoc d) from V1_ne m d main_v2 (by decide)]
  iintro ⟨⟨⟨H0, H2, H3⟩, H4⟩, H1, H5⟩
  isplitl [H0]; · iexact H0
  isplitl [H1]; · iexact H1
  isplitl [H2]; · iexact H2
  isplitl [H3]; · iexact H3
  isplitl [H4]; · iexact H4
  iexact H5

/-- What @main leaves the claims: the arguments as they were, the result. -/
abbrev FIN (d : Dev nD) : sProp 𝕄 := Six d (V3 m d)

/-- @main on device `d`'s TensorCore: the observations made flat, the call, the result given its shape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_six]
  simp only [main, wp_bind, wp_pure]
  iintro ⟨#Hctx, Hst, ⟨Hb, Hheld, Hts, -⟩, -⟩
  iapply (wp_hlo_within 𝒱 (SparseCore.T d) none Set.univ (op := opIn) (S := S6) hIn (V := V0 m d)) $$ [Hb Hheld]
  · isplitl [Hb]; · iexact Hb
    iexact Hheld
  iintro ⟨Hb, Hheld⟩
  rw [wp_ret]; imodintro
  ihave Hh := (Entails.of_eq (show (held (T d) S6 ((opIn (F := F)).result (V0 m d)) : sProp 𝕄) = Six d (V1 m d) from held_S6 (F := F) d (V1 m d))) $$ Hheld
  ihave Hc := (six_V1 m d) $$ Hh
  icases Hc with ⟨Hc, Hob, Hy⟩
  iapply ((K (F := F)).wp_run (D (F := F)) 𝒱 (EH := EH) (P := P m) κ d 0) $$ [Hst Hc Hob Hy Hb Hts]
  isplitr; · iexact Hctx
  isplitl [Hst]; · iexact Hst
  isplitl [Hc]
  · rw [st0_eq]; iexact Hc
  iintro ⟨Hst, Hdn⟩
  ihave Hdn' := (Entails.of_eq (dn0_eq m d)) $$ Hdn
  ihave Hh := (six_V2 m d) $$ [Hdn' Hob Hy]
  · isplitl [Hdn']; · iexact Hdn'
    isplitl [Hob]; · iexact Hob
    iexact Hy
  iapply (wp_hlo_within 𝒱 (SparseCore.T d) none Set.univ (op := opOut) (S := S6) hOut (V := V2 m d)) $$ [Hb Hh]
  · isplitl [Hb]; · iexact Hb
    rw [held_S6]; iexact Hh
  iintro ⟨Hb, Hheld⟩
  ihave Hh := (Entails.of_eq (show (held (T d) S6 ((opOut (F := F)).result (V2 m d)) : sProp 𝕄) = Six d (V3 m d) from held_S6 (F := F) d (V3 m d))) $$ Hheld
  rw [wp_ret]; imodintro; imodintro
  isplitl [Hst]; · iexact Hst
  isplitr [Hb Hts]
  · iexact Hh
  isplitl [Hb] <;> iassumption

/-- What the final memory says of the arrays of the claims. -/
def fq (d : Dev nD) (s' : Phys nD τ sig (Elt F)) : Prop :=
  s'.mem.mem (tmLoc d) = m (tmLoc d) ∧ s'.mem.mem (obLoc d) = m (obLoc d) ∧ s'.mem.mem (tqLoc d) = m (tqLoc d) ∧ s'.mem.mem (yLoc d) = resR m d

omit [FloatOps F] in
/-- An array held whole is in memory what it is held at. -/
theorem held_agree {ℓ : Loc nD τ sig} {f : Buf (Elt F) ℓ} {Z : sProp 𝕄} (s' : Phys nD τ sig (Elt F)) :
    (iprop((ℓ ↦{fullShare} f) ∗ Z ∗ SI s') : sProp 𝕄) ⊢ iprop(⌜s'.mem.mem ℓ = f⌝ ∗ Z ∗ SI s') := by
  iintro ⟨H, HZ, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  isplitl [HZ]; · iexact HZ
  iexact HSI

theorem hfin (d : Dev nD) (s' : Phys nD τ sig (Elt F)) : iprop(FIN m d ∗ SI s') ⊢ (⌜fq m d s'⌝ : sProp 𝕄) := by
  unfold FIN Six
  rw [V3_v2, show V3 m d a0' = m (tmLoc d) from V3_arg m d main_arg0 (by decide) (by decide) (by decide),
    show V3 m d a1' = m (obLoc d) from V3_arg m d main_arg1 (by decide) (by decide) (by decide),
    show V3 m d a2' = m (tqLoc d) from V3_arg m d main_arg2 (by decide) (by decide) (by decide)]
  iintro ⟨⟨H0, H1, H2, -, -, H5⟩, HSI⟩
  ihave H := (held_agree (Z := iprop((obLoc d ↦{fullShare} m (obLoc d)) ∗ (tqLoc d ↦{fullShare} m (tqLoc d)) ∗ yLoc d ↦{fullShare} resR m d)) s') $$ [H0 H1 H2 H5 HSI]
  · isplitl [H0]; · iexact H0
    isplitr [HSI]
    · isplitl [H1]; · iexact H1
      isplitl [H2]; · iexact H2
      iexact H5
    iexact HSI
  icases H with ⟨%h0, ⟨H1, H2, H5⟩, HSI⟩
  ihave H := (held_agree (Z := iprop((tqLoc d ↦{fullShare} m (tqLoc d)) ∗ yLoc d ↦{fullShare} resR m d)) s') $$ [H1 H2 H5 HSI]
  · isplitl [H1]; · iexact H1
    isplitr [HSI]
    · isplitl [H2]; · iexact H2
      iexact H5
    iexact HSI
  icases H with ⟨%h1, ⟨H2, H5⟩, HSI⟩
  ihave H := (held_agree (Z := iprop(yLoc d ↦{fullShare} resR m d)) s') $$ [H2 H5 HSI]
  · isplitl [H2]; · iexact H2
    isplitl [H5]; · iexact H5
    iexact HSI
  icases H with ⟨%h2, H5, HSI⟩
  ihave H := (SI_pointsTo_agree (st := s') (ℓ := yLoc d) (I := Finset.univ) (q := fullShare) (f := resR m d)) $$ [HSI H5]
  · isplitl [HSI] <;> iassumption
  icases H with %h5
  ipureintro; exact ⟨h0, h1, h2, funext fun i => h5 i (Finset.mem_univ i)⟩

/-! ## The program's run -/

/-- What the run ends in: the arguments as they were, the result as stated, every counter at zero. -/
def QC : PUnit × MemSt nD τ sig (Elt F) → Prop := fun r =>
  (∀ c : Dev nD, r.2.mem (tmLoc c) = m (tmLoc c) ∧ r.2.mem (obLoc c) = m (obLoc c) ∧ r.2.mem (tqLoc c) = m (tqLoc c) ∧ r.2.mem (yLoc c) = resR m c)
    ∧ r.2.sem = fun _ => 0

/-- From any memory every fair execution of the program ends, and ends so. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Hand

end
-- ==== Proof.Reference.lean ====
/-
  The reference's result, stated operation by operation as its program computes it, then word by word: it is the
  function of the arguments that the kernel's result is.
-/
module

public import Idealize.ShloMosaic.Lib.StableHlo.Predicate
public import Idealize.ShloMosaic.Lib.Routing.Ops
public import proofs.«01_k».proof.Proof.Gen.ReferenceIdeal.Run
public import proofs.«01_k».proof.Proof.KernelIdeal.Run

@[expose] public section

set_option maxRecDepth 16384

noncomputable section

namespace Cert.ReferenceIdeal.Hand

open Cert.ReferenceIdeal Cert.ReferenceIdeal.Gen
open Idealize.ShloMosaic
open Idealize.ShloMosaic.StableHlo.Predicate (ixP ij gather_take bcast_rows bcast_cols bcast_col1)
open Cert.KernelIdeal.Hand (cntN rN lN onN mN dstN wgtN tAt resV pos pos64 pos128 posX cntN_le rN_le lN_le mN_le minsi_small maxsi_small sgt_small)

variable (t : S128.Idx → Ideal .f32) (q : S64.Idx → Ideal .f32) (x : S4x2048x128x32.Idx → Ideal .f32)

/-! ## The program's values -/

/-- One word for every query. -/
def allQ (k : BitVec 32) : IVec S64 32 := broadcastInDim S64 ![] bcast_S_S64 (constantI S_ 32 k)

/-- Whether each grid point lies below each query. -/
def below : IVec S64x128 1 :=
  cmpf .olt (broadcastInDim S64x128 ![0, 1] bcast_S1x128_S64x128_0_1 (broadcastInDim S1x128 ![1] bcast_S128_S1x128_1 t))
    (broadcastInDim S64x128 ![0, 1] bcast_S64x1_S64x128_0_1 (broadcastInDim S64x1 ![0] bcast_S64_S64x1_0 q))

/-- The right neighbours, and the left ones before the correction. -/
def rightI : IVec S64 32 :=
  minsi (Host.reduce IntOp.addi (extui 32 (below t q) natLt_1_32) (constantI S_ 32 0#32) reducesTo_S64x128_S64_d1 h_S_) (allQ 127#32)
def leftI : IVec S64 32 := maxsi (subi (rightI t q) (allQ 1#32)) (allQ 0#32)

/-- The positions an index vector is read at: a negative index counts from the grid's end. -/
def startI (k : IVec S64 32) : IVec S64x1 32 :=
  broadcastInDim S64x1 ![0] bcast_S64_S64x1_0 (select (cmpi .slt k (allQ 0#32)) (addi k (allQ 128#32)) k)

/-- The grid points at `k`, and the observations there. -/
def gridI (k : IVec S64 32) : FVec Ideal S64 .f32 := Host.gather gather_S128_S64x1_S64_n_0_n_n_0_1_1 t (startI k)
def obsI (k : IVec S64 32) : FVec Ideal S4x2048x64x32 .f32 :=
  Host.gather gather_S4x2048x128x32_S64x1_S4x2048x64x32_013_2_n_n_2_1_42048132 x (startI k)

/-- The left neighbours, corrected where the left neighbour is the query. -/
def midI : IVec S64 32 :=
  select (andi (cmpf .oeq (gridI t (leftI t q)) q) (cmpi .sgt (leftI t q) (allQ 0#32))) (subi (leftI t q) (allQ 1#32)) (leftI t q)

/-- The distances, the weights, and the result. -/
def distI : FVec Ideal S64 .f32 := subf (gridI t (rightI t q)) (gridI t (midI t q))
def weightI : FVec Ideal S64 .f32 :=
  Host.divf (subf q (gridI t (midI t q)))
    (select (cmpf .oeq (distI t q) (broadcastInDim S64 ![] bcast_S_S64 (constant S_ .f32 0x00000000#32)))
      (broadcastInDim S64 ![] bcast_S_S64 (constant S_ .f32 0x358637BD#32)) (distI t q))
def resI : FVec Ideal S4x2048x64x32 .f32 :=
  addf (obsI x (midI t q))
    (mulf (broadcastInDim S4x2048x64x32 ![0, 1, 2, 3] bcast_S1x1x64x1_S4x2048x64x32_0_1_2_3 (shapeCast S1x1x64x1 (weightI t q) shapeCasts_S64_S1x1x64x1))
      (subf (obsI x (rightI t q)) (obsI x (midI t q))))

/-- The generated term is this one. -/
theorem res_eq (m : (ℓ : Loc nD τ sig) → Buf (Elt Ideal) ℓ) (c : Dev nD) :
    Cert.ReferenceIdeal.Value.res_main_v65 m c
      = resI (m ((c.tc : Thread nD τ).loc main_arg0)) (m ((c.tc : Thread nD τ).loc main_arg2)) (m ((c.tc : Thread nD τ).loc main_arg1)) := by
  unfold Cert.ReferenceIdeal.Value.res_main_v65
  rfl

/-! ## The search -/

/-- The count of set bits along a query's row is the count of the grid points below the query. -/
theorem count_eq (a : Ideal .f32) (n : ℕ) : Nat.count (fun p => FloatOps.cmpf .olt (tAt (F := Ideal) t p) a = 1) n = cntN (F := Ideal) t a n := by
  induction n with
  | zero => rfl
  | succ n ih => rw [Nat.count_succ, ih]; rfl

theorem pos64_eq (p : Fin 64) : (pos pos64 p.val : S64.Idx) = Shape.Idx.ofFin p := by
  funext a
  obtain rfl : a = 0 := Subsingleton.elim _ _
  exact Fin.ext (Nat.mod_eq_of_lt p.isLt)

theorem pos128_eq (n : ℕ) (h : n < 128) : (pos pos128 n : S128.Idx) = Shape.Idx.ofFin ⟨n, h⟩ := by
  funext a
  obtain rfl : a = 0 := Subsingleton.elim _ _
  exact Fin.ext (Nat.mod_eq_of_lt h)

theorem ofFin_ix1 (p : Fin 64) : (Shape.Idx.ofFin p : S64.Idx) = ValueIdx.ix1 p := by
  funext a
  obtain rfl : a = 0 := Subsingleton.elim _ _
  rfl

/-- The right neighbour of query `p`. -/
theorem rightI_at (p : Fin 64) : rightI t q (Shape.Idx.ofFin p) = BitVec.ofNat 32 (rN (F := Ideal) t (q (Shape.Idx.ofFin p))) := by
  have h := Routing.reduce_count (n := 64) (m := 128) (by decide) (below t q) natLt_1_32 reducesTo_S64x128_S64_d1 h_S_ p
    (fun n => FloatOps.cmpf .olt (tAt (F := Ideal) t n) (q (Shape.Idx.ofFin p)) = 1) (fun n => by
      have e : below t q (ij p n) = FloatOps.cmpf .olt (t (Shape.Idx.ofFin n)) (q (Shape.Idx.ofFin p)) := by
        show FloatOps.cmpf .olt _ _ = _
        rw [bcast_cols, bcast_rows]
      rw [← Routing.ij_eq_ix2, e, tAt, pos128_eq n.val n.isLt]
      exact Iff.rfl)
  show IntOp.minsi _ 127#32 = _
  rw [ofFin_ix1] at *
  rw [h, count_eq]
  exact minsi_small _ (cntN_le (F := Ideal) t _ 128)

theorem leftI_at (p : Fin 64) : leftI t q (Shape.Idx.ofFin p) = BitVec.ofNat 32 (lN (F := Ideal) t (q (Shape.Idx.ofFin p))) := by
  show IntOp.maxsi (rightI t q (Shape.Idx.ofFin p) - 1#32) 0#32 = _
  rw [rightI_at]
  exact maxsi_small _ (rN_le (F := Ideal) t _)

/-! ## Reading at an index vector -/

/-- An index of the grid is read where it points. -/
theorem startI_at (k : IVec S64 32) (p : Fin 64) (n : ℕ) (hn : n < 128) (hk : k (Shape.Idx.ofFin p) = BitVec.ofNat 32 n) :
    (startI k (ixP p)).toInt.toNat = n := by
  have hneg : ∀ c : Fin 128, IntOp.cmpi .slt (BitVec.ofNat 32 c.val) 0#32 = 0#1 := by decide
  have hval : ∀ c : Fin 128, (BitVec.ofNat 32 c.val).toInt.toNat = c.val := by decide
  have e : startI k (ixP p) = BitVec.ofNat 32 n := by
    unfold startI
    rw [bcast_col1]
    show Scalar.select (IntOp.cmpi .slt (k (Shape.Idx.ofFin p)) 0#32) _ _ = _
    rw [hk, hneg ⟨n, hn⟩]
    rfl
  rw [e]
  exact hval ⟨n, hn⟩

theorem gridI_at (k : IVec S64 32) (p : Fin 64) (n : ℕ) (hn : n < 128) (hk : k (Shape.Idx.ofFin p) = BitVec.ofNat 32 n) :
    gridI t k (Shape.Idx.ofFin p) = tAt (F := Ideal) t n := by
  unfold gridI
  rw [gather_take gather_S128_S64x1_S64_n_0_n_n_0_1_1 rfl rfl rfl rfl t (startI k) p (by decide), tAt, pos128_eq n hn]
  congr 2
  apply Fin.ext
  show min (startI k (ixP p)).toInt.toNat 127 = n
  rw [startI_at k p n hn hk]
  omega

/-- Word `(a, b, p, w)` of the observations at an index vector is the observation `(a, b)` at query `p`'s index, channel `w`. -/
theorem obsI_at (k : IVec S64 32) (a : Fin 4) (b : Fin 2048) (p : Fin 64) (w : Fin 32) (n : ℕ) (hn : n < 128)
    (hk : k (Shape.Idx.ofFin p) = BitVec.ofNat 32 n) :
    obsI x k (ValueIdx.ix4 a b p w) = x (ValueIdx.ix4 a b ⟨n, hn⟩ w) := by
  have hs : gather_S4x2048x128x32_S64x1_S4x2048x64x32_013_2_n_n_2_1_42048132.start (ValueIdx.ix4 a b p w) (startI k) 2 = n := by
    unfold GatherDims.start
    rw [dif_pos (by decide)]
    have e : gather_S4x2048x128x32_S64x1_S4x2048x64x32_013_2_n_n_2_1_42048132.siIdx (ValueIdx.ix4 a b p w) ⟨0, by decide⟩ = ixP p := by
      funext c
      match c with
      | ⟨0, _⟩ => rfl
      | ⟨1, _⟩ => rfl
    show min (startI k (gather_S4x2048x128x32_S64x1_S4x2048x64x32_013_2_n_n_2_1_42048132.siIdx (ValueIdx.ix4 a b p w) ⟨0, by decide⟩)).toInt.toNat 127 = n
    rw [e, startI_at k p n hn hk]
    omega
  unfold obsI Host.gather
  refine congrArg x (funext fun c => Fin.ext ?_)
  match c with
  | ⟨0, _⟩ => show 0 + 0 + a.val = a.val; omega
  | ⟨1, _⟩ => show 0 + 0 + b.val = b.val; omega
  | ⟨2, _⟩ =>
    show gather_S4x2048x128x32_S64x1_S4x2048x64x32_013_2_n_n_2_1_42048132.start (ValueIdx.ix4 a b p w) (startI k) 2 + 0 + 0 = n
    rw [hs]; rfl
  | ⟨3, _⟩ => show 0 + 0 + w.val = w.val; omega

/-! ## The neighbours and the weight -/

theorem midI_at (p : Fin 64) : midI t q (Shape.Idx.ofFin p) = BitVec.ofNat 32 (mN (F := Ideal) t (q (Shape.Idx.ofFin p))) := by
  have hl := lN_le (F := Ideal) t (q (Shape.Idx.ofFin p))
  show Scalar.select (FloatOps.cmpf .oeq (gridI t (leftI t q) (Shape.Idx.ofFin p)) (q (Shape.Idx.ofFin p))
    &&& IntOp.cmpi .sgt (leftI t q (Shape.Idx.ofFin p)) 0#32) (leftI t q (Shape.Idx.ofFin p) - 1#32) (leftI t q (Shape.Idx.ofFin p)) = _
  rw [gridI_at t _ p _ (by omega) (leftI_at t q p), leftI_at, sgt_small _ (by omega)]
  generalize hA : q (Shape.Idx.ofFin p) = A at *
  unfold mN
  by_cases h0 : 0 < lN (F := Ideal) t A
  · rw [decide_eq_true h0]
    by_cases h1 : FloatOps.cmpf .oeq (tAt (F := Ideal) t (lN (F := Ideal) t A)) A = 1
    · rw [if_pos (show onN (F := Ideal) t A from ⟨h1, h0⟩), h1, StableHlo.Predicate.sub_one_ofNat _ h0 (by omega)]; rfl
    · rw [if_neg (fun h : onN (F := Ideal) t A => h1 h.1), ValueIdx.eq_zero_of_ne_one h1]; rfl
  · rw [decide_eq_false h0, if_neg (fun h : onN (F := Ideal) t A => h0 h.2)]
    have hz : ∀ b : BitVec 1, b &&& BitVec.ofBool false = 0#1 := by decide
    rw [hz]; rfl

theorem weightI_at (p : Fin 64) : weightI t q (Shape.Idx.ofFin p) = wgtN (F := Ideal) t (q (Shape.Idx.ofFin p)) := by
  have hm := mN_le (F := Ideal) t (q (Shape.Idx.ofFin p))
  have hr := rN_le (F := Ideal) t (q (Shape.Idx.ofFin p))
  have eg := gridI_at t _ p _ (by omega) (midI_at t q p)
  have ed : distI t q (Shape.Idx.ofFin p) = dstN (F := Ideal) t (q (Shape.Idx.ofFin p)) := by
    show FloatOps.subf (gridI t (rightI t q) (Shape.Idx.ofFin p)) (gridI t (midI t q) (Shape.Idx.ofFin p)) = _
    rw [gridI_at t _ p _ (by omega) (rightI_at t q p), eg]; rfl
  show FloatOps.hostDivf (FloatOps.subf (q (Shape.Idx.ofFin p)) (gridI t (midI t q) (Shape.Idx.ofFin p)))
    (Scalar.select (FloatOps.cmpf .oeq (distI t q (Shape.Idx.ofFin p)) (Scalar.ofBits .f32 0x00000000#32)) (Scalar.ofBits .f32 0x358637BD#32)
      (distI t q (Shape.Idx.ofFin p))) = _
  rw [ed, eg]
  rfl

/-! ## The result -/

/-- Word `(a, b, p, w)` of the reference's result. -/
theorem resI_at (a : Fin 4) (b : Fin 2048) (p : Fin 64) (w : Fin 32) :
    resI t q x (ValueIdx.ix4 a b p w)
      = FloatOps.addf (x (ValueIdx.ix4 a b ⟨mN (F := Ideal) t (q (Shape.Idx.ofFin p)), by have := mN_le (F := Ideal) t (q (Shape.Idx.ofFin p)); omega⟩ w))
          (FloatOps.mulf (wgtN (F := Ideal) t (q (Shape.Idx.ofFin p)))
            (FloatOps.subf (x (ValueIdx.ix4 a b ⟨rN (F := Ideal) t (q (Shape.Idx.ofFin p)), by have := rN_le (F := Ideal) t (q (Shape.Idx.ofFin p)); omega⟩ w))
              (x (ValueIdx.ix4 a b ⟨mN (F := Ideal) t (q (Shape.Idx.ofFin p)), by have := mN_le (F := Ideal) t (q (Shape.Idx.ofFin p)); omega⟩ w)))) := by
  have hw : broadcastInDim S4x2048x64x32 ![0, 1, 2, 3] bcast_S1x1x64x1_S4x2048x64x32_0_1_2_3 (shapeCast S1x1x64x1 (weightI t q) shapeCasts_S64_S1x1x64x1)
      (ValueIdx.ix4 a b p w) = weightI t q (Shape.Idx.ofFin p) := by
    unfold broadcastInDim
    refine shapeCast_apply _ _ _ _ ?_
    rw [Shape.rowMajor_val_one, Shape.rowMajor_val_four]
    show p.val = ((0 * 1 + 0) * 64 + p.val) * 1 + 0
    omega
  show FloatOps.addf (obsI x (midI t q) (ValueIdx.ix4 a b p w)) (FloatOps.mulf (broadcastInDim S4x2048x64x32 ![0, 1, 2, 3] bcast_S1x1x64x1_S4x2048x64x32_0_1_2_3
    (shapeCast S1x1x64x1 (weightI t q) shapeCasts_S64_S1x1x64x1) (ValueIdx.ix4 a b p w))
    (FloatOps.subf (obsI x (rightI t q) (ValueIdx.ix4 a b p w)) (obsI x (midI t q) (ValueIdx.ix4 a b p w)))) = _
  rw [hw, weightI_at, obsI_at x _ a b p w _ _ (midI_at t q p), obsI_at x _ a b p w _ _ (rightI_at t q p)]

/-- The flat observations at the position of `(a, b, n, w)`. -/
theorem flat_at (h : S4x2048x128x32.ShapeCasts Cert.KernelIdeal.S33554432) (a : Fin 4) (b : Fin 2048) (n : ℕ) (hn : n < 128) (w : Fin 32) (k : ℕ)
    (hk : k = 4096 * (a.val * 2048 + b.val) + 32 * n + w.val) :
    shapeCast Cert.KernelIdeal.S33554432 x h (pos posX k) = x (ValueIdx.ix4 a b ⟨n, hn⟩ w) := by
  refine shapeCast_apply _ _ _ _ ?_
  rw [Shape.rowMajor_val_one, Shape.rowMajor_val_four]
  show ((a.val * 2048 + b.val) * 128 + n) * 32 + w.val = k % 33554432
  have := a.isLt; have := b.isLt; have := w.isLt
  omega

/-- The reference's result is the kernel's. -/
theorem resI_eq (h : S4x2048x128x32.ShapeCasts Cert.KernelIdeal.S33554432) (h' : Cert.KernelIdeal.S16777216.ShapeCasts Cert.KernelIdeal.S4x2048x64x32) :
    resI t q x = shapeCast Cert.KernelIdeal.S4x2048x64x32
      (fun i : Cert.KernelIdeal.S16777216.Idx => resV (F := Ideal) t q (shapeCast Cert.KernelIdeal.S33554432 x h) (i 0).val) h' := by
  funext j
  obtain ⟨a, b, p, w, rfl⟩ : ∃ (a : Fin 4) (b : Fin 2048) (p : Fin 64) (w : Fin 32), j = ValueIdx.ix4 a b p w := ⟨_, _, _, _, ValueIdx.eq_ix4 j⟩
  have := a.isLt; have := b.isLt; have := p.isLt; have := w.isLt
  have hv : ((a.val * 2048 + b.val) * 64 + p.val) * 32 + w.val < 16777216 := by omega
  rw [resI_at]
  refine Eq.trans ?_ (shapeCast_apply _ h' _ (Shape.Idx.ofFin (⟨((a.val * 2048 + b.val) * 64 + p.val) * 32 + w.val, hv⟩ : Fin 16777216)) ?_).symm
  · show _ = resV (F := Ideal) t q (shapeCast Cert.KernelIdeal.S33554432 x h) (((a.val * 2048 + b.val) * 64 + p.val) * 32 + w.val)
    have e1 : (((a.val * 2048 + b.val) * 64 + p.val) * 32 + w.val) / 2048 = a.val * 2048 + b.val := by omega
    have e2 : (((a.val * 2048 + b.val) * 64 + p.val) * 32 + w.val) % 2048 / 32 = p.val := by omega
    have e3 : (((a.val * 2048 + b.val) * 64 + p.val) * 32 + w.val) % 32 = w.val := by omega
    have hm := mN_le (F := Ideal) t (q (Shape.Idx.ofFin p))
    have hr := rN_le (F := Ideal) t (q (Shape.Idx.ofFin p))
    unfold resV
    rw [e1, e2, e3, pos64_eq, flat_at x h a b _ (by omega) w _ rfl, flat_at x h a b _ (by omega) w _ rfl]
  · rw [Shape.rowMajor_val_one, Shape.rowMajor_val_four]
    rfl

end Cert.ReferenceIdeal.Hand

end
-- ==== Proof.lean ====
/-
  The proof of `Cert.Claim`: the two programs' runs (Proof/Kernel, Proof/KernelIdeal), the reference's (Proof/Reference),
  and that the two results are one function of the arguments.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Reference
public import Idealize.ShloMosaic.Adequacy
public import Idealize.ShloMosaic.Init

@[expose] public section

noncomputable section

namespace Cert.Proof

open Idealize.ShloMosaic Idealize.SL.Sem

/-- The kernel at its floats: every fair execution ends, the arguments as they were and every counter at zero. -/
theorem frameP : Cert.quiescent_Kernel := fun m g _ =>
  (θ_run Cert.Kernel.defs _ _).mono (fun _ h => ⟨fun c => ⟨(h.1 c).1, (h.1 c).2.1, (h.1 c).2.2.1⟩, h.2⟩)
    (Cert.Kernel.Hand.run_main (F := Bits) m g)

/-- The kernel over the reals: the same. -/
theorem framePI : Cert.quiescent_KernelIdeal := fun m g _ =>
  (θ_run Cert.KernelIdeal.defs _ _).mono (fun _ h => ⟨fun c => ⟨(h.1 c).1, (h.1 c).2.1, (h.1 c).2.2.1⟩, h.2⟩)
    (Cert.KernelIdeal.Hand.run_main (F := Ideal) m g)

/-- The reference over the reals: the same. -/
theorem frameRI : Cert.quiescent_ReferenceIdeal := fun m g _ =>
  (θ_run Cert.ReferenceIdeal.defs _ _).mono (fun r h => ⟨fun c => (h c).2, sem_eq_zero_of_no_sems (by decide) r.2⟩) (Cert.ReferenceIdeal.Value.run (F := Ideal) m g)

/-- From the same arguments the two programs end with the same result. -/
theorem algebraic : Cert.algebraic_KernelIdeal_ReferenceIdeal := fun m g m' g' _ hm =>
  ⟨Cert.KernelIdeal.Hand.resR (F := Ideal) m,
    (θ_run Cert.KernelIdeal.defs _ _).mono (fun _ h c => ⟨(h.1 c).2.2.2, (h.1 c).1, (h.1 c).2.1, (h.1 c).2.2.1⟩)
      (Cert.KernelIdeal.Hand.run_main (F := Ideal) m g),
    (θ_run Cert.ReferenceIdeal.defs _ _).mono (fun _ h c => ⟨(h c).1.trans (by
        rw [Cert.ReferenceIdeal.Hand.res_eq, (hm c).1, (hm c).2.1, (hm c).2.2]
        exact Cert.ReferenceIdeal.Hand.resI_eq _ _ _ _ _), (h c).2⟩)
      (Cert.ReferenceIdeal.Value.run (F := Ideal) m' g')⟩

/-- Everything the certificate claims. -/
theorem claim : Cert.Claim :=
  ⟨Cert.Kernel.Gen.facts, Cert.KernelIdeal.Gen.facts, Cert.ReferenceIdeal.Gen.facts, frameP, framePI, frameRI, trivial, algebraic⟩

end Cert.Proof

end
